-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8388608x2 : Shape := ⟨2, ![8388608, 2]⟩
abbrev S65536x128x2 : Shape := ⟨3, ![65536, 128, 2]⟩
abbrev S65536x2x128 : Shape := ⟨3, ![65536, 2, 128]⟩
abbrev S16777216 : Shape := ⟨1, ![16777216]⟩
abbrev S16384 : Shape := ⟨1, ![16384]⟩
abbrev S_ : Shape := ⟨0, ![]⟩
abbrev S16 : Shape := ⟨1, ![16]⟩

abbrev nBuf : Table → Nat
  | .hbm => 8
  | .local .scVector .vmem => 4
  | _ => 0

abbrev bufTy : (tb : Table) → Fin (nBuf tb) → BufTy
  | .hbm, ⟨0, _⟩ => ⟨S8388608x2, .f32⟩
  | .hbm, ⟨1, _⟩ => ⟨S65536x128x2, .f32⟩
  | .hbm, ⟨2, _⟩ => ⟨S65536x2x128, .f32⟩
  | .hbm, ⟨3, _⟩ => ⟨S16777216, .f32⟩
  | .hbm, ⟨4, _⟩ => ⟨S16777216, .f32⟩
  | .hbm, ⟨5, _⟩ => ⟨S65536x2x128, .f32⟩
  | .hbm, ⟨6, _⟩ => ⟨S65536x128x2, .f32⟩
  | .hbm, ⟨7, _⟩ => ⟨S8388608x2, .f32⟩
  | .local .scVector .vmem, ⟨0, _⟩ => ⟨S16384, .f32⟩
  | .local .scVector .vmem, ⟨1, _⟩ => ⟨S16384, .f32⟩
  | .local .scVector .vmem, ⟨2, _⟩ => ⟨S16384, .f32⟩
  | .local .scVector .vmem, ⟨3, _⟩ => ⟨S16384, .f32⟩
  | _, _ => ⟨S8388608x2, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 4 → Bool
  | ⟨0, _⟩ => false
  | ⟨1, _⟩ => false
  | ⟨2, _⟩ => false
  | ⟨3, _⟩ => false
  | _ => false

abbrev sig : RefSig :=
  ofTables nBuf rfl bufTy 4 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v2_scv : Ref sig .scVector := ⟨.hbm, 3, rfl⟩
abbrev main_v3_scv : Ref sig .scVector := ⟨.hbm, 4, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let v4 : BitVec 32 := Scalar.addi v2 c0_i32
  ![v4.toNat]
def k0_off1_at (r : Fin 3) : BitVec 32 :=
  if r.val < 1 then
    0#32
  else
    if r.val < 2 then
      491520#32
    else
      507904#32
@[reducible] def k0_t1_loop : Scf.Loop 32 :=
  let c0_i32_0 : BitVec 32 := 0#32
  let c16_i32 : BitVec 32 := 16#32
  let v7 : BitVec 32 := Scalar.addi c0_i32_0 c16_i32
  let c1_i32 : BitVec 32 := 1#32
  ⟨c0_i32_0, v7, c1_i32⟩
def k0_cond1 (k0_t1 : Fin k0_t1_loop.trips) : BitVec 1 :=
  let c0_i32_3 : BitVec 32 := 0#32
  let c0_i32_0 : BitVec 32 := 0#32
  let c1_i32 : BitVec 32 := 1#32
  let arg12 : BitVec 32 := Scf.iv c0_i32_0 c1_i32 k0_t1
  let c2_i32_2 : BitVec 32 := 2#32
  let v14 : BitVec 32 := Scalar.muli arg12 c2_i32_2
  let v15 : BitVec 32 := Scalar.addi c0_i32_3 v14
  let c0_i32_4 : BitVec 32 := 0#32
  let v16 : BitVec 32 := Scalar.addi v15 c0_i32_4
  let c1_i32_5 : BitVec 32 := 1#32
  let v17 : BitVec 32 := Scalar.addi v16 c1_i32_5
  let c32_i32 : BitVec 32 := 32#32
  let v18 : BitVec 1 := Scalar.cmpi .slt v17 c32_i32
  let v19 : BitVec 32 := Scalar.extui v18
  let c0_i32_6 : BitVec 32 := 0#32
  let v20 : BitVec 1 := Scalar.cmpi .ne v19 c0_i32_6
  v20

def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_3 : BitVec 32 := 0#32
  let c0_i32_0 : BitVec 32 := 0#32
  let c1_i32 : BitVec 32 := 1#32
  let arg12 : BitVec 32 := Scf.iv c0_i32_0 c1_i32 k0_t1
  let c2_i32_2 : BitVec 32 := 2#32
  let v14 : BitVec 32 := Scalar.muli arg12 c2_i32_2
  let v15 : BitVec 32 := Scalar.addi c0_i32_3 v14
  let c0_i32_4 : BitVec 32 := 0#32
  let v16 : BitVec 32 := Scalar.addi v15 c0_i32_4
  let c1_i32_27 : BitVec 32 := 1#32
  let v50 : BitVec 32 := Scalar.addi v16 c1_i32_27
  let c16384_i32_28 : BitVec 32 := 16384#32
  let v51 : BitVec 32 := Scalar.muli v50 c16384_i32_28
  let v52 : BitVec 32 := Scalar.addi v2 v51
  ![v52.toNat]
def k0_off3 (i : grid0.Coords) (k0_t1 : Fin k0_t1_loop.trips) (c0_i32_4 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_3 : BitVec 32 := 0#32
  let c0_i32_0 : BitVec 32 := 0#32
  let c1_i32 : BitVec 32 := 1#32
  let arg12 : BitVec 32 := Scf.iv c0_i32_0 c1_i32 k0_t1
  let c2_i32_2 : BitVec 32 := 2#32
  let v14 : BitVec 32 := Scalar.muli arg12 c2_i32_2
  let v15 : BitVec 32 := Scalar.addi c0_i32_3 v14
  let v16 : BitVec 32 := Scalar.addi v15 c0_i32_4
  let c16384_i32 : BitVec 32 := 16384#32
  let v21 : BitVec 32 := Scalar.muli v16 c16384_i32
  let v22 : BitVec 32 := Scalar.addi v2 v21
  ![v22.toNat]
def k0_cond2 (k0_t1 : Fin k0_t1_loop.trips) : BitVec 1 :=
  let c0_i32_3 : BitVec 32 := 0#32
  let c0_i32_0 : BitVec 32 := 0#32
  let c1_i32 : BitVec 32 := 1#32
  let arg12 : BitVec 32 := Scf.iv c0_i32_0 c1_i32 k0_t1
  let c2_i32_2 : BitVec 32 := 2#32
  let v14 : BitVec 32 := Scalar.muli arg12 c2_i32_2
  let v15 : BitVec 32 := Scalar.addi c0_i32_3 v14
  let c0_i32_4 : BitVec 32 := 0#32
  let v16 : BitVec 32 := Scalar.addi v15 c0_i32_4
  let c2_i32_7 : BitVec 32 := 2#32
  let v25 : BitVec 1 := Scalar.cmpi .sge v16 c2_i32_7
  let v26 : BitVec 32 := Scalar.extui v25
  let c0_i32_8 : BitVec 32 := 0#32
  let v27 : BitVec 1 := Scalar.cmpi .ne v26 c0_i32_8
  v27

def k0_off4 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_3 : BitVec 32 := 0#32
  let c0_i32_0 : BitVec 32 := 0#32
  let c1_i32 : BitVec 32 := 1#32
  let arg12 : BitVec 32 := Scf.iv c0_i32_0 c1_i32 k0_t1
  let c2_i32_2 : BitVec 32 := 2#32
  let v14 : BitVec 32 := Scalar.muli arg12 c2_i32_2
  let v15 : BitVec 32 := Scalar.addi c0_i32_3 v14
  let c0_i32_4 : BitVec 32 := 0#32
  let v16 : BitVec 32 := Scalar.addi v15 c0_i32_4
  let c2_i32_27 : BitVec 32 := 2#32
  let v50 : BitVec 32 := Scalar.subi v16 c2_i32_27
  let c16384_i32_28 : BitVec 32 := 16384#32
  let v51 : BitVec 32 := Scalar.muli v50 c16384_i32_28
  let v52 : BitVec 32 := Scalar.addi v2 v51
  ![v52.toNat]
@[reducible] def k0_t2_loop : Scf.Loop 32 :=
  let c0_i32_10 : BitVec 32 := 0#32
  let c64_i32 : BitVec 32 := 64#32
  let v28 : BitVec 32 := Scalar.addi c0_i32_10 c64_i32
  let c1_i32_11 : BitVec 32 := 1#32
  ⟨c0_i32_10, v28, c1_i32_11⟩
def k0_off5 (k0_t2 : Fin k0_t2_loop.trips) (c0_i32_27 : BitVec 32) : Fin 1 → Nat :=
  let c0_i32_10 : BitVec 32 := 0#32
  let c1_i32_11 : BitVec 32 := 1#32
  let arg13 : BitVec 32 := Scf.iv c0_i32_10 c1_i32_11 k0_t2
  let c256_i32 : BitVec 32 := 256#32
  let v50 : BitVec 32 := Scalar.muli arg13 c256_i32
  let v51 : BitVec 32 := Scalar.addi v50 c0_i32_27
  let v53 : Index := Scalar.indexCast v51
  ![v53.toNat]
def k0_off6 (k0_t2 : Fin k0_t2_loop.trips) (c0_i32_27 : BitVec 32) : Fin 1 → Nat :=
  let c0_i32_10 : BitVec 32 := 0#32
  let c1_i32_11 : BitVec 32 := 1#32
  let arg13 : BitVec 32 := Scf.iv c0_i32_10 c1_i32_11 k0_t2
  let c256_i32 : BitVec 32 := 256#32
  let v50 : BitVec 32 := Scalar.muli arg13 c256_i32
  let v51 : BitVec 32 := Scalar.addi v50 c0_i32_27
  let c128_i32 : BitVec 32 := 128#32
  let v52 : BitVec 32 := Scalar.addi v51 c128_i32
  let v55 : Index := Scalar.indexCast v52
  ![v55.toNat]
def k0_cond3 (k0_t1 : Fin k0_t1_loop.trips) : BitVec 1 :=
  let c0_i32_3 : BitVec 32 := 0#32
  let c0_i32_0 : BitVec 32 := 0#32
  let c1_i32 : BitVec 32 := 1#32
  let arg12 : BitVec 32 := Scf.iv c0_i32_0 c1_i32 k0_t1
  let c2_i32_2 : BitVec 32 := 2#32
  let v14 : BitVec 32 := Scalar.muli arg12 c2_i32_2
  let v15 : BitVec 32 := Scalar.addi c0_i32_3 v14
  let c1_i32_14 : BitVec 32 := 1#32
  let v33 : BitVec 32 := Scalar.addi v15 c1_i32_14
  let c1_i32_15 : BitVec 32 := 1#32
  let v34 : BitVec 32 := Scalar.addi v33 c1_i32_15
  let c32_i32_16 : BitVec 32 := 32#32
  let v35 : BitVec 1 := Scalar.cmpi .slt v34 c32_i32_16
  let v36 : BitVec 32 := Scalar.extui v35
  let c0_i32_17 : BitVec 32 := 0#32
  let v37 : BitVec 1 := Scalar.cmpi .ne v36 c0_i32_17
  v37

def k0_off7 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_3 : BitVec 32 := 0#32
  let c0_i32_0 : BitVec 32 := 0#32
  let c1_i32 : BitVec 32 := 1#32
  let arg12 : BitVec 32 := Scf.iv c0_i32_0 c1_i32 k0_t1
  let c2_i32_2 : BitVec 32 := 2#32
  let v14 : BitVec 32 := Scalar.muli arg12 c2_i32_2
  let v15 : BitVec 32 := Scalar.addi c0_i32_3 v14
  let c1_i32_14 : BitVec 32 := 1#32
  let v33 : BitVec 32 := Scalar.addi v15 c1_i32_14
  let c1_i32_27 : BitVec 32 := 1#32
  let v50 : BitVec 32 := Scalar.addi v33 c1_i32_27
  let c16384_i32_28 : BitVec 32 := 16384#32
  let v51 : BitVec 32 := Scalar.muli v50 c16384_i32_28
  let v52 : BitVec 32 := Scalar.addi v2 v51
  ![v52.toNat]
def k0_cond4 (k0_t1 : Fin k0_t1_loop.trips) : BitVec 1 :=
  let c0_i32_3 : BitVec 32 := 0#32
  let c0_i32_0 : BitVec 32 := 0#32
  let c1_i32 : BitVec 32 := 1#32
  let arg12 : BitVec 32 := Scf.iv c0_i32_0 c1_i32 k0_t1
  let c2_i32_2 : BitVec 32 := 2#32
  let v14 : BitVec 32 := Scalar.muli arg12 c2_i32_2
  let v15 : BitVec 32 := Scalar.addi c0_i32_3 v14
  let c1_i32_14 : BitVec 32 := 1#32
  let v33 : BitVec 32 := Scalar.addi v15 c1_i32_14
  let c2_i32_19 : BitVec 32 := 2#32
  let v42 : BitVec 1 := Scalar.cmpi .sge v33 c2_i32_19
  let v43 : BitVec 32 := Scalar.extui v42
  let c0_i32_20 : BitVec 32 := 0#32
  let v44 : BitVec 1 := Scalar.cmpi .ne v43 c0_i32_20
  v44

def k0_off8 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c524288_i32 : BitVec 32 := 524288#32
  let v2 : BitVec 32 := Scalar.muli v1 c524288_i32
  let c0_i32_3 : BitVec 32 := 0#32
  let c0_i32_0 : BitVec 32 := 0#32
  let c1_i32 : BitVec 32 := 1#32
  let arg12 : BitVec 32 := Scf.iv c0_i32_0 c1_i32 k0_t1
  let c2_i32_2 : BitVec 32 := 2#32
  let v14 : BitVec 32 := Scalar.muli arg12 c2_i32_2
  let v15 : BitVec 32 := Scalar.addi c0_i32_3 v14
  let c1_i32_14 : BitVec 32 := 1#32
  let v33 : BitVec 32 := Scalar.addi v15 c1_i32_14
  let c2_i32_27 : BitVec 32 := 2#32
  let v50 : BitVec 32 := Scalar.subi v33 c2_i32_27
  let c16384_i32_28 : BitVec 32 := 16384#32
  let v51 : BitVec 32 := Scalar.muli v50 c16384_i32_28
  let v52 : BitVec 32 := Scalar.addi v2 v51
  ![v52.toNat]
@[reducible] def k0_t3_loop : Scf.Loop 32 :=
  let c0_i32_22 : BitVec 32 := 0#32
  let c64_i32_23 : BitVec 32 := 64#32
  let v45 : BitVec 32 := Scalar.addi c0_i32_22 c64_i32_23
  let c1_i32_24 : BitVec 32 := 1#32
  ⟨c0_i32_22, v45, c1_i32_24⟩
def k0_off9 (k0_t3 : Fin k0_t3_loop.trips) (c0_i32_27 : BitVec 32) : Fin 1 → Nat :=
  let c0_i32_22 : BitVec 32 := 0#32
  let c1_i32_24 : BitVec 32 := 1#32
  let arg13 : BitVec 32 := Scf.iv c0_i32_22 c1_i32_24 k0_t3
  let c256_i32 : BitVec 32 := 256#32
  let v50 : BitVec 32 := Scalar.muli arg13 c256_i32
  let v51 : BitVec 32 := Scalar.addi v50 c0_i32_27
  let v53 : Index := Scalar.indexCast v51
  ![v53.toNat]
def k0_off10 (k0_t3 : Fin k0_t3_loop.trips) (c0_i32_27 : BitVec 32) : Fin 1 → Nat :=
  let c0_i32_22 : BitVec 32 := 0#32
  let c1_i32_24 : BitVec 32 := 1#32
  let arg13 : BitVec 32 := Scf.iv c0_i32_22 c1_i32_24 k0_t3
  let c256_i32 : BitVec 32 := 256#32
  let v50 : BitVec 32 := Scalar.muli arg13 c256_i32
  let v51 : BitVec 32 := Scalar.addi v50 c0_i32_27
  let c128_i32 : BitVec 32 := 128#32
  let v52 : BitVec 32 := Scalar.addi v51 c128_i32
  let v55 : Index := Scalar.indexCast v52
  ![v55.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S8388608x2 : Shape := ⟨2, ![8388608, 2]⟩
abbrev S8388608x1 : Shape := ⟨2, ![8388608, 1]⟩
abbrev S8388608 : Shape := ⟨1, ![8388608]⟩
abbrev S_ : Shape := ⟨0, ![]⟩

abbrev nBuf : Space → Nat
  | .hbm => 29
  | .vmem => 0
  | .smem => 0
  | _ => 0

abbrev bufTy : (tb : Table) → Fin (tcTables nBuf tb) → BufTy
  | .hbm, ⟨0, _⟩ => ⟨S8388608x2, .f32⟩
  | .hbm, ⟨1, _⟩ => ⟨S8388608x1, .f32⟩
  | .hbm, ⟨2, _⟩ => ⟨S8388608, .f32⟩
  | .hbm, ⟨3, _⟩ => ⟨S8388608x1, .f32⟩
  | .hbm, ⟨4, _⟩ => ⟨S8388608, .f32⟩
  | .hbm, ⟨5, _⟩ => ⟨S_, .f32⟩
  | .hbm, ⟨6, _⟩ => ⟨S8388608, .f32⟩
  | .hbm, ⟨7, _⟩ => ⟨S8388608, .i1⟩
  | .hbm, ⟨8, _⟩ => ⟨S_, .f32⟩
  | .hbm, ⟨9, _⟩ => ⟨S8388608, .f32⟩
  | .hbm, ⟨10, _⟩ => ⟨S8388608, .i1⟩
  | .hbm, ⟨11, _⟩ => ⟨S_, .f32⟩
  | .hbm, ⟨12, _⟩ => ⟨S8388608, .f32⟩
  | .hbm, ⟨13, _⟩ => ⟨S8388608, .i1⟩
  | .hbm, ⟨14, _⟩ => ⟨S8388608, .i1⟩
  | .hbm, ⟨15, _⟩ => ⟨S8388608, .f32⟩
  | .hbm, ⟨16, _⟩ => ⟨S8388608, .i1⟩
  | .hbm, ⟨17, _⟩ => ⟨S8388608, .i1⟩
  | .hbm, ⟨18, _⟩ => ⟨S_, .f32⟩
  | .hbm, ⟨19, _⟩ => ⟨S8388608, .f32⟩
  | .hbm, ⟨20, _⟩ => ⟨S8388608, .f32⟩
  | .hbm, ⟨21, _⟩ => ⟨S_, .f32⟩
  | .hbm, ⟨22, _⟩ => ⟨S8388608, .f32⟩
  | .hbm, ⟨23, _⟩ => ⟨S8388608, .f32⟩
  | .hbm, ⟨24, _⟩ => ⟨S8388608, .f32⟩
  | .hbm, ⟨25, _⟩ => ⟨S8388608, .f32⟩
  | .hbm, ⟨26, _⟩ => ⟨S8388608x1, .f32⟩
  | .hbm, ⟨27, _⟩ => ⟨S8388608x1, .f32⟩
  | .hbm, ⟨28, _⟩ => ⟨S8388608x2, .f32⟩
  | _, _ => ⟨S8388608x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_cst : Ref sig .tc := ⟨.hbm, 5, rfl⟩
abbrev main_v4 : Ref sig .tc := ⟨.hbm, 6, rfl⟩
abbrev main_v5 : Ref sig .tc := ⟨.hbm, 7, rfl⟩
abbrev main_cst_0 : Ref sig .tc := ⟨.hbm, 8, rfl⟩
abbrev main_v6 : Ref sig .tc := ⟨.hbm, 9, rfl⟩
abbrev main_v7 : Ref sig .tc := ⟨.hbm, 10, rfl⟩
abbrev main_cst_1 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_cst_2 : Ref sig .tc := ⟨.hbm, 18, rfl⟩
abbrev main_v14 : Ref sig .tc := ⟨.hbm, 19, rfl⟩
abbrev main_v15 : Ref sig .tc := ⟨.hbm, 20, rfl⟩
abbrev main_cst_3 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== Proof.Values.lean ====
/-
  What the kernel computes, lane by lane, over any float values: the clamped bounds of a rectified linear unit for
  one pair of numbers, how pairs lie in the flat array (128 lower numbers, then their 128 upper partners), and the two arrays the
  run's statements speak of — one chunk's answer and the whole array's answer.
-/
module

public import proofs.«01_k».proof.Defs
public import proofs.«01_k».proof.Proof.Gen.KernelIdeal
public import proofs.«01_k».proof.Proof.Gen.KernelIdeal.Skeleton

@[expose] public section

noncomputable section

namespace Cert.Proof

open Cert.KernelIdeal Cert.KernelIdeal.Gen
open Idealize.ShloMosaic

variable {F : FTy → Type} [FloatOps F]

/-- The number zero, as the kernel writes it. -/
def zeroF : F .f32 := Scalar.ofBits .f32 0x00000000#32

/-- The lower result for a pair `(l, u)`: `l` when `l ≥ 0` or `u > 0 - l`, else zero. -/
def lower (l u : F .f32) : F .f32 :=
  Scalar.select (IntOp.ori (FloatOps.cmpf .oge l zeroF) (FloatOps.cmpf .ogt u (FloatOps.subf zeroF l))) l zeroF

/-- The upper result for a pair `(l, u)`: `u` when `l ≥ 0`, else the larger of `u` and zero. -/
def upper (l u : F .f32) : F .f32 :=
  Scalar.select (FloatOps.cmpf .oge l zeroF) u (FloatOps.maximumf u zeroF)

/-- The result at place `p` of a flat sequence `g` in which each block of 256 holds 128 lower numbers followed by their
    128 upper partners. -/
def pairAt (g : ℕ → F .f32) (p : ℕ) : F .f32 :=
  if p % 256 < 128 then lower (g p) (g (p + 128)) else upper (g (p - 128)) (g p)

/-- A one-dimensional array read as a sequence (places beyond its end wrap round and are never looked at). -/
def seqOf {n : ℕ} (hn : 0 < n) (f : (⟨1, ![n]⟩ : Shape).Idx → F .f32) (p : ℕ) : F .f32 :=
  f fun a => ⟨p % n, by fin_cases a; exact Nat.mod_lt _ hn⟩

/-- Reading an array as a sequence at an index's own place gives its element there. -/
theorem seqOf_eq {n : ℕ} (hn : 0 < n) (f : (⟨1, ![n]⟩ : Shape).Idx → F .f32) (i : (⟨1, ![n]⟩ : Shape).Idx) (p : ℕ)
    (hp : p = (i 0).val) : seqOf hn f p = f i := by
  subst hp
  refine congrArg f (funext fun a => Fin.ext ?_)
  fin_cases a
  exact Nat.mod_eq_of_lt (i 0).isLt

/-- The answer for one chunk of 16384 numbers. -/
def chunkOut (f : S16384.Idx → F .f32) : S16384.Idx → F .f32 :=
  fun i => pairAt (seqOf (n := 16384) (by decide) f) (i 0).val

/-- The answer for the whole array of 16777216 numbers. -/
def wholeOut (f : S16777216.Idx → F .f32) : S16777216.Idx → F .f32 :=
  fun i => pairAt (seqOf (n := 16777216) (by decide) f) (i 0).val

/-- A chunk starting at a multiple of 16384 of the whole array is answered alone: the place `o + q` of the whole answer
    is the place `q` of the answer for the chunk that starts at `o`. -/
theorem chunkOut_eq (f : S16777216.Idx → F .f32) (g : S16384.Idx → F .f32) (o : ℕ) (ho : 16384 ∣ o)
    (hle : o + 16384 ≤ 16777216)
    (hg : ∀ (q : S16384.Idx) (i : S16777216.Idx), (i 0).val = o + (q 0).val → g q = f i)
    (q : S16384.Idx) (i : S16777216.Idx) (hi : (i 0).val = o + (q 0).val) : chunkOut g q = wholeOut f i := by
  have hs : ∀ p, p < 16384 → seqOf (n := 16384) (by decide) g p = seqOf (n := 16777216) (by decide) f (o + p) := by
    intro p hp
    refine hg _ _ ?_
    show (o + p) % 16777216 = o + p % 16384
    rw [Nat.mod_eq_of_lt hp, Nat.mod_eq_of_lt (by omega)]
  have hq : (q 0).val < 16384 := (q 0).isLt
  obtain ⟨e, rfl⟩ := ho
  unfold chunkOut wholeOut pairAt
  rw [hi]
  have hm : (16384 * e + (q 0).val) % 256 = (q 0).val % 256 := by omega
  rw [hm]
  split
  · next h =>
    have hlt : (q 0).val + 128 < 16384 := by omega
    rw [hs _ hq, hs _ hlt, Nat.add_assoc]
  · next h =>
    rw [hs _ hq, hs ((q 0).val - 128) (by omega)]
    congr 2
    omega

end Cert.Proof
-- ==== Proof.Setup.lean ====
/-
  The launch set-up every later module shares: the program as the launch theorem sees it, the resource algebra of a
  kernel whose only transfers are local copies, the arrays and scratch buffers under short names, and the tile a
  coordinate pair stands for.
-/
module

public import proofs.«01_k».proof.Proof.Values
public import Idealize.ShloMosaic.Lib.SparseCore.Quiescent
public import Idealize.ShloMosaic.Lib.StableHlo.Run
public import Idealize.ShloMosaic.Lib.Pipeline.Kit
public import Idealize.ShloMosaic.Lib.Tactic

@[expose] public section

noncomputable section

namespace Cert.Proof

open Cert.KernelIdeal Cert.KernelIdeal.Gen
open Idealize.ShloMosaic
open Idealize.SL Idealize.SL.RA Idealize.SL.BI
open Idealize.SL.Sem
open Idealize.ShloMosaic.Rounds

variable {F : FTy → Type}

/-! ## The program and its algebra -/

/-- The labels the launched program calls. -/
abbrev ΛP : Labels := Pipeline.Sig Λ₀ (Fin 0) fun p => (pcfgs (F := F) p).Adm
/-- The one SparseCore launch of the program. -/
abbrev K : SparseCore.Cfg τ sig (ΛP (F := F)) 1 := sc (F := F)
/-- The bodies the labels stand for. -/
abbrev D [FloatOps F] : Defs nD τ sig (Elt F) (ΛP (F := F)) := Pipeline.defs pcfgs defs₀
/-- No recursion, hence no variants. -/
abbrev 𝒱₀ : Variants := Variants.none
/-- The variants of the launched program. -/
abbrev 𝒱 : Variants := 𝒱₀.lift
/-- The variant the calls are made at. -/
abbrev v₀ : 𝒱.V := Sum.inl none

/-- The handshakes' ghost state. -/
abbrev UH : Type := URounds (GSem nD τ sig) ℕ
/-- The handshakes' ghost state and the copies' counters. -/
abbrev UU : Type := UH × Counters

/-- Where the handshakes' state lies in the whole algebra. -/
abbrev EH : Emb UH (MT nD τ sig (SparseCore.Cfg.HIx 1) (Elt F) ℕ UU ℕ) := embL

/-! ## Arrays, scratch buffers, tiles -/

/-- The flat array the tiles read. -/
abbrev xV : Memref sig .scVector .hbm S16777216 .f32 := Memref.whole main_v2_scv
/-- The flat array the tiles fill. -/
abbrev yV : Memref sig .scVector .hbm S16777216 .f32 := Memref.whole main_v3_scv
/-- First input buffer of a tile. -/
abbrev inA : Memref sig .scVector .vmem S16384 .f32 := Memref.whole cc0_scratch0
/-- Second input buffer of a tile. -/
abbrev inB : Memref sig .scVector .vmem S16384 .f32 := Memref.whole cc0_scratch1
/-- First output buffer of a tile. -/
abbrev outA : Memref sig .scVector .vmem S16384 .f32 := Memref.whole cc0_scratch2
/-- Second output buffer of a tile. -/
abbrev outB : Memref sig .scVector .vmem S16384 .f32 := Memref.whole cc0_scratch3

/-- The SparseCore of a coordinate pair. -/
abbrev coreOf (L : grid0.Coords) : Fin τ.nSC := (L 0).castLE hcore0
/-- The vector subcore of a coordinate pair. -/
abbrev subOf (L : grid0.Coords) : Fin τ.nSub := (L 1).castLE hsub0
/-- The thread of a coordinate pair on device `d`. -/
abbrev tileOf (d : Dev nD) (L : grid0.Coords) : Thread nD τ := SparseCore.V d (coreOf L) (subOf L)

end Cert.Proof
-- ==== Proof.Lanes.lean ====
/-
  One chunk's arithmetic. A trip of either inner loop answers one block of 256 numbers: eight vectors of lower numbers
  with their eight vectors of upper partners, each pair of vectors giving two stores. The module says what one such
  store is, what sixteen of them leave, and from that what each inner loop leaves in its output buffer.
-/
module

public import proofs.«01_k».proof.Proof.Setup

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
local notation "𝕄" => MT nD τ sig (HIx 1) (Elt F) ℕ UU ℕ

/-! ## One store -/

/-- A store that puts the chunk's answer on the sixteen places from `a` on. -/
def Answers (f : S16384.Idx → F .f32) (p : View.Piece (Elt F) S16384 .f32) (a : ℕ) : Prop :=
  (∀ x : p.1.shape.Idx, p.2 x = chunkOut f (p.1.emb x))
    ∧ ∀ y : S16384.Idx, y ∈ p.1.set ↔ a ≤ (y 0).val ∧ (y 0).val < a + 16

/-- The sixteen places from `a` on. -/
theorem mem_sixteen {off : Fin 1 → ℕ} {inb : ∀ a, off a + S16.size a ≤ S16384.size a} {a : ℕ} (h : off = ![a])
    (y : S16384.Idx) :
    y ∈ (Rect.unit (s := S16384) off S16.size inb).set ↔ a ≤ (y 0).val ∧ (y 0).val < a + 16 := by
  subst h
  rw [Rect.mem_set_unit]
  constructor
  · intro H; exact H 0
  · intro H b; fin_cases b; exact H

/-- Where the `x`-th of sixteen places lies. -/
theorem emb_sixteen {off : Fin 1 → ℕ} {inb : ∀ a, off a + S16.size a ≤ S16384.size a} {a : ℕ} (h : off = ![a])
    (x : S16.Idx) : ((Rect.unit (s := S16384) off S16.size inb).emb x 0).val = a + (x 0).val := by
  subst h
  rw [Rect.emb_apply]
  show a + 1 * (x 0).val = _
  rw [Nat.one_mul]

/-- The store of a vector's lower results answers its places. -/
theorem answers_lower (f : S16384.Idx → F .f32) {off off' : Fin 1 → ℕ}
    {inb : ∀ a, off a + S16.size a ≤ S16384.size a} {inb' : ∀ a, off' a + S16.size a ≤ S16384.size a}
    (t : ℕ) (r : Fin 8) (h : off = ![256 * t + 16 * r.val]) (h' : off' = ![256 * t + 16 * r.val + 128])
    (w : S16.Idx → F .f32)
    (hw : ∀ x, w x = lower (f ((Rect.unit (s := S16384) off S16.size inb).emb x))
      (f ((Rect.unit (s := S16384) off' S16.size inb').emb x))) :
    Answers f ⟨Rect.unit (s := S16384) off S16.size inb, w⟩ (256 * t + 16 * r.val) := by
  refine ⟨fun x => (hw x).trans ?_, mem_sixteen (inb := inb) h⟩
  have h1 := emb_sixteen (inb := inb) h x
  have h2 := emb_sixteen (inb := inb') h' x
  have hx : (x 0).val < 16 := (x 0).isLt
  have hr := r.isLt
  unfold chunkOut pairAt
  rw [if_pos (by rw [h1]; omega)]
  exact congrArg₂ lower (seqOf_eq _ f _ _ rfl).symm (seqOf_eq _ f _ _ (by rw [h1, h2]; omega)).symm

/-- The store of a vector's upper results answers its places. -/
theorem answers_upper (f : S16384.Idx → F .f32) {off off' : Fin 1 → ℕ}
    {inb : ∀ a, off a + S16.size a ≤ S16384.size a} {inb' : ∀ a, off' a + S16.size a ≤ S16384.size a}
    (t : ℕ) (r : Fin 8) (h : off = ![256 * t + 16 * r.val]) (h' : off' = ![256 * t + 16 * r.val + 128])
    (w : S16.Idx → F .f32)
    (hw : ∀ x, w x = upper (f ((Rect.unit (s := S16384) off S16.size inb).emb x))
      (f ((Rect.unit (s := S16384) off' S16.size inb').emb x))) :
    Answers f ⟨Rect.unit (s := S16384) off' S16.size inb', w⟩ (256 * t + 16 * r.val + 128) := by
  refine ⟨fun x => (hw x).trans ?_, mem_sixteen (inb := inb') h'⟩
  have h1 := emb_sixteen (inb := inb) h x
  have h2 := emb_sixteen (inb := inb') h' x
  have hx : (x 0).val < 16 := (x 0).isLt
  have hr := r.isLt
  unfold chunkOut pairAt
  rw [if_neg (by rw [h2]; omega)]
  exact congrArg₂ upper (seqOf_eq _ f _ _ (by rw [h1, h2]; omega)).symm (seqOf_eq _ f _ _ rfl).symm

/-! ## A trip's sixteen stores -/

/-- Where the sixteen stores of trip `t` start, the last store first. -/
def starts (t : ℕ) : List ℕ :=
  [256 * t + 16 * 7 + 128, 256 * t + 16 * 7, 256 * t + 16 * 6 + 128, 256 * t + 16 * 6,
   256 * t + 16 * 5 + 128, 256 * t + 16 * 5, 256 * t + 16 * 4 + 128, 256 * t + 16 * 4,
   256 * t + 16 * 3 + 128, 256 * t + 16 * 3, 256 * t + 16 * 2 + 128, 256 * t + 16 * 2,
   256 * t + 16 * 1 + 128, 256 * t + 16 * 1, 256 * t + 16 * 0 + 128, 256 * t + 16 * 0]

/-- The contents `g` hold the chunk's answer on the first `n` places. -/
def UpTo (f g : S16384.Idx → F .f32) (n : ℕ) : Prop := ∀ y : S16384.Idx, (y 0).val < n → g y = chunkOut f y

/-- In two lists related place by place, every member of the first has a partner in the second. -/
theorem partner_left {α β : Type*} {R : α → β → Prop} {l : List α} {l' : List β} (h : List.Forall₂ R l l') :
    ∀ a ∈ l, ∃ b ∈ l', R a b := by
  induction h with
  | nil => intro a ha; exact absurd ha List.not_mem_nil
  | cons hr _ ih =>
    intro a ha
    rcases List.mem_cons.1 ha with rfl | ha
    · exact ⟨_, List.mem_cons_self, hr⟩
    · obtain ⟨b, hb, hab⟩ := ih a ha
      exact ⟨b, List.mem_cons_of_mem _ hb, hab⟩

/-- And every member of the second has a partner in the first. -/
theorem partner_right {α β : Type*} {R : α → β → Prop} {l : List α} {l' : List β} (h : List.Forall₂ R l l') :
    ∀ b ∈ l', ∃ a ∈ l, R a b :=
  partner_left h.flip

/-- Nothing is claimed before the first trip. -/
theorem upTo_zero (f g : S16384.Idx → F .f32) : UpTo f g (256 * 0) := fun _ h => absurd h (Nat.not_lt_zero _)

/-- After the last trip the whole buffer is the chunk's answer. -/
theorem upTo_all {f g : S16384.Idx → F .f32} (h : UpTo f g (256 * 64)) : g = chunkOut f := funext fun y => h y (y 0).isLt

/-- Sixteen stores that answer trip `t`'s places extend the answer from the first `256 t` places to the first
    `256 (t + 1)`. -/
theorem upTo_step {sp : Space} (v : View sig .scVector sp S16384 .f32) (f : S16384.Idx → F .f32)
    (g : v.ty.Contents (Elt F)) (t : ℕ) (Ws : List (View.Piece (Elt F) S16384 .f32))
    (hW : List.Forall₂ (Answers f) Ws (starts t)) (hg : UpTo f (v.read (Elt F) g) (256 * t)) :
    UpTo f (v.read (Elt F) (v.writes (Elt F) g Ws)) (256 * (t + 1)) := by
  intro y hy
  rcases Nat.lt_or_ge (y 0).val (256 * t) with hlt | hge
  · rw [View.read_writes_apply_of_forall_not_mem]
    · exact hg y hlt
    · intro p hp hmem
      obtain ⟨a, ha, hpa⟩ := partner_left hW p hp
      have := ((hpa.2 y).1 hmem).1
      simp only [starts, List.mem_cons, List.not_mem_nil, _root_.or_false] at ha
      omega
  · refine View.read_writes_apply_of_pieces v g (chunkOut f) Ws ?_ y ?_
    · intro p hp
      obtain ⟨a, -, hpa⟩ := partner_left hW p hp
      exact hpa.1
    · have hm : 16 * ((y 0).val / 16) ∈ starts t := by
        simp only [starts, List.mem_cons, List.not_mem_nil, _root_.or_false]
        omega
      obtain ⟨p, hp, hpa⟩ := partner_right hW _ hm
      exact ⟨p, hp, (hpa.2 y).2 (by omega)⟩

/-- The same for the first output buffer, held whole, so that its contents are what is read of it. -/
theorem upTo_outA (f : S16384.Idx → F .f32) (g : outA.view.ty.Contents (Elt F)) (t : ℕ)
    (Ws : List (View.Piece (Elt F) S16384 .f32)) (hW : List.Forall₂ (Answers f) Ws (starts t))
    (hg : UpTo f g (256 * t)) : UpTo f (outA.view.writes (Elt F) g Ws) (256 * (t + 1)) := by
  have h := upTo_step outA.view f g t Ws hW hg
  rwa [View.read_whole] at h

/-- The same for the second output buffer. -/
theorem upTo_outB (f : S16384.Idx → F .f32) (g : outB.view.ty.Contents (Elt F)) (t : ℕ)
    (Ws : List (View.Piece (Elt F) S16384 .f32)) (hW : List.Forall₂ (Answers f) Ws (starts t))
    (hg : UpTo f g (256 * t)) : UpTo f (outB.view.writes (Elt F) g Ws) (256 * (t + 1)) := by
  have h := upTo_step outB.view f g t Ws hW hg
  rwa [View.read_whole] at h

/-! ## The two inner loops -/

/-- Before trip `n` of the first inner loop: its input buffer at `f`, its output buffer answered on the first `256 n`
    places. -/
def innerA (d : Dev nD) (L : grid0.Coords) (f : S16384.Idx → F .f32) (n : ℕ) : sProp 𝕄 :=
  iprop((inA.view.loc (tileOf d L) ↦{fullShare} (f : Buf (Elt F) (inA.view.loc (tileOf d L))))
    ∗ ∃ g : Buf (Elt F) (outA.view.loc (tileOf d L)), ⌜UpTo f g (256 * n)⌝ ∗ (outA.view.loc (tileOf d L) ↦{fullShare} g))

/-- Before trip `n` of the second inner loop, likewise at the second pair of buffers. -/
def innerB (d : Dev nD) (L : grid0.Coords) (f : S16384.Idx → F .f32) (n : ℕ) : sProp 𝕄 :=
  iprop((inB.view.loc (tileOf d L) ↦{fullShare} (f : Buf (Elt F) (inB.view.loc (tileOf d L))))
    ∗ ∃ g : Buf (Elt F) (outB.view.loc (tileOf d L)), ⌜UpTo f g (256 * n)⌝ ∗ (outB.view.loc (tileOf d L) ↦{fullShare} g))

/-- One trip of the first inner loop answers one block more. -/
theorem trip_first (d : Dev nD) (L : grid0.Coords) (v2 : BitVec 32) (k1 : Fin k0_t1_loop.trips)
    (k : Fin k0_t2_loop.trips) (acc : Unit) (f : S16384.Idx → F .f32) :
    (innerA d L f k.val : sProp 𝕄)
      ⊢ wp frame (wpE (defs₀ (F := F)) 𝒱₀ (tileOf d L) none) Set.univ
          (k0_t2_body (F := F) L xV (Memref.isWhole_whole _) yV (Memref.isWhole_whole _) inA (Memref.isWhole_whole _)
            inB (Memref.isWhole_whole _) outA (Memref.isWhole_whole _) outB (Memref.isWhole_whole _)
            cc0_scratch4 cc0_scratch5 cc0_scratch6 cc0_scratch7 v2 k0_pay1 0#32 1#32 k1 k acc)
          fun _ => innerA d L f (k.val + 1) := by
  unfold innerA
  iintro ⟨Hx, %g, %hg, Ho⟩
  sl_unfold [k0_t2_body]
  sl_exec
  sl_step
  isplitl [Hx]
  · iexact Hx
  iexists _
  isplitr
  swap
  · iexact Ho
  ipureintro
  refine upTo_outA f g k.val _ ?_ hg
  unfold starts
  refine .cons (answers_upper f k.val 7 (k0_off5_eq k 7) (k0_off6_eq k 7) _ fun _ => rfl) ?_
  refine .cons (answers_lower f k.val 7 (k0_off5_eq k 7) (k0_off6_eq k 7) _ fun _ => rfl) ?_
  refine .cons (answers_upper f k.val 6 (k0_off5_eq k 6) (k0_off6_eq k 6) _ fun _ => rfl) ?_
  refine .cons (answers_lower f k.val 6 (k0_off5_eq k 6) (k0_off6_eq k 6) _ fun _ => rfl) ?_
  refine .cons (answers_upper f k.val 5 (k0_off5_eq k 5) (k0_off6_eq k 5) _ fun _ => rfl) ?_
  refine .cons (answers_lower f k.val 5 (k0_off5_eq k 5) (k0_off6_eq k 5) _ fun _ => rfl) ?_
  refine .cons (answers_upper f k.val 4 (k0_off5_eq k 4) (k0_off6_eq k 4) _ fun _ => rfl) ?_
  refine .cons (answers_lower f k.val 4 (k0_off5_eq k 4) (k0_off6_eq k 4) _ fun _ => rfl) ?_
  refine .cons (answers_upper f k.val 3 (k0_off5_eq k 3) (k0_off6_eq k 3) _ fun _ => rfl) ?_
  refine .cons (answers_lower f k.val 3 (k0_off5_eq k 3) (k0_off6_eq k 3) _ fun _ => rfl) ?_
  refine .cons (answers_upper f k.val 2 (k0_off5_eq k 2) (k0_off6_eq k 2) _ fun _ => rfl) ?_
  refine .cons (answers_lower f k.val 2 (k0_off5_eq k 2) (k0_off6_eq k 2) _ fun _ => rfl) ?_
  refine .cons (answers_upper f k.val 1 (k0_off5_eq k 1) (k0_off6_eq k 1) _ fun _ => rfl) ?_
  refine .cons (answers_lower f k.val 1 (k0_off5_eq k 1) (k0_off6_eq k 1) _ fun _ => rfl) ?_
  refine .cons (answers_upper f k.val 0 (k0_off5_eq k 0) (k0_off6_eq k 0) _ fun _ => rfl) ?_
  refine .cons (answers_lower f k.val 0 (k0_off5_eq k 0) (k0_off6_eq k 0) _ fun _ => rfl) ?_
  exact .nil

/-- One trip of the second inner loop answers one block more. -/
theorem trip_second (d : Dev nD) (L : grid0.Coords) (k : Fin k0_t3_loop.trips) (acc : Unit) (f : S16384.Idx → F .f32) :
    (innerB d L f k.val : sProp 𝕄)
      ⊢ wp frame (wpE (defs₀ (F := F)) 𝒱₀ (tileOf d L) none) Set.univ
          (k0_t3_body (F := F) L xV (Memref.isWhole_whole _) yV (Memref.isWhole_whole _) inA (Memref.isWhole_whole _)
            inB (Memref.isWhole_whole _) outA (Memref.isWhole_whole _) outB (Memref.isWhole_whole _)
            cc0_scratch4 cc0_scratch5 cc0_scratch6 cc0_scratch7 k acc)
          fun _ => innerB d L f (k.val + 1) := by
  unfold innerB
  iintro ⟨Hx, %g, %hg, Ho⟩
  sl_unfold [k0_t3_body]
  sl_exec
  sl_step
  isplitl [Hx]
  · iexact Hx
  iexists _
  isplitr
  swap
  · iexact Ho
  ipureintro
  refine upTo_outB f g k.val _ ?_ hg
  unfold starts
  refine .cons (answers_upper f k.val 7 (k0_off9_eq k 7) (k0_off10_eq k 7) _ fun _ => rfl) ?_
  refine .cons (answers_lower f k.val 7 (k0_off9_eq k 7) (k0_off10_eq k 7) _ fun _ => rfl) ?_
  refine .cons (answers_upper f k.val 6 (k0_off9_eq k 6) (k0_off10_eq k 6) _ fun _ => rfl) ?_
  refine .cons (answers_lower f k.val 6 (k0_off9_eq k 6) (k0_off10_eq k 6) _ fun _ => rfl) ?_
  refine .cons (answers_upper f k.val 5 (k0_off9_eq k 5) (k0_off10_eq k 5) _ fun _ => rfl) ?_
  refine .cons (answers_lower f k.val 5 (k0_off9_eq k 5) (k0_off10_eq k 5) _ fun _ => rfl) ?_
  refine .cons (answers_upper f k.val 4 (k0_off9_eq k 4) (k0_off10_eq k 4) _ fun _ => rfl) ?_
  refine .cons (answers_lower f k.val 4 (k0_off9_eq k 4) (k0_off10_eq k 4) _ fun _ => rfl) ?_
  refine .cons (answers_upper f k.val 3 (k0_off9_eq k 3) (k0_off10_eq k 3) _ fun _ => rfl) ?_
  refine .cons (answers_lower f k.val 3 (k0_off9_eq k 3) (k0_off10_eq k 3) _ fun _ => rfl) ?_
  refine .cons (answers_upper f k.val 2 (k0_off9_eq k 2) (k0_off10_eq k 2) _ fun _ => rfl) ?_
  refine .cons (answers_lower f k.val 2 (k0_off9_eq k 2) (k0_off10_eq k 2) _ fun _ => rfl) ?_
  refine .cons (answers_upper f k.val 1 (k0_off9_eq k 1) (k0_off10_eq k 1) _ fun _ => rfl) ?_
  refine .cons (answers_lower f k.val 1 (k0_off9_eq k 1) (k0_off10_eq k 1) _ fun _ => rfl) ?_
  refine .cons (answers_upper f k.val 0 (k0_off9_eq k 0) (k0_off10_eq k 0) _ fun _ => rfl) ?_
  refine .cons (answers_lower f k.val 0 (k0_off9_eq k 0) (k0_off10_eq k 0) _ fun _ => rfl) ?_
  exact .nil

end Cert.Proof
-- ==== Proof.Pieces.lean ====
/-
  The flat arrays in chunks: chunk `n` is the 16384 places from `16384 n` on. The module says which chunk a slice of the
  program names, what a copy of a chunk into a tile's buffer leaves there, what a copy of an answered buffer into a
  chunk of the result leaves there, and that each flat array is its 1024 chunks.
-/
module

public import proofs.«01_k».proof.Proof.Lanes

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
local notation "𝕄" => MT nD τ sig (HIx 1) (Elt F) ℕ UU ℕ

/-! ## Chunks -/

/-- The places of chunk `n`. -/
def seg (n : ℕ) : Finset S16777216.Idx :=
  Finset.univ.filter fun i => 16384 * n ≤ (i 0).val ∧ (i 0).val < 16384 * n + 16384

/-- Which places chunk `n` has. -/
theorem mem_seg {n : ℕ} {i : S16777216.Idx} : i ∈ seg n ↔ 16384 * n ≤ (i 0).val ∧ (i 0).val < 16384 * n + 16384 := by
  simp [seg]

/-- Different chunks share no place. -/
theorem seg_disjoint {m n : ℕ} (h : m ≠ n) : Disjoint (seg m) (seg n) := by
  rw [Finset.disjoint_left]
  intro i hm hn
  rw [mem_seg] at hm hn
  omega

/-- The 1024 chunks are the whole array. -/
theorem seg_cover : (Finset.range 1024).biUnion seg = Finset.univ := by
  ext i
  have hi : (i 0).val < 16777216 := (i 0).isLt
  simp only [Finset.mem_biUnion, Finset.mem_range, mem_seg, Finset.mem_univ, iff_true]
  exact ⟨(i 0).val / 16384, by omega, by omega, by omega⟩

/-- The contents of chunk `n` of a flat array. -/
def chunkOf (f : S16777216.Idx → F .f32) (n : ℕ) : S16384.Idx → F .f32 :=
  fun q => seqOf (n := 16777216) (by decide) f (16384 * n + (q 0).val)

/-- The answer for chunk `n` is chunk `n` of the whole answer. -/
theorem chunkOut_chunkOf (f : S16777216.Idx → F .f32) (n : ℕ) (hn : n < 1024) (q : S16384.Idx) (i : S16777216.Idx)
    (hi : (i 0).val = 16384 * n + (q 0).val) : chunkOut (chunkOf f n) q = wholeOut f i :=
  chunkOut_eq f _ (16384 * n) ⟨n, rfl⟩ (by omega) (fun _ _ h => seqOf_eq _ f _ _ h.symm) q i hi

/-! ## A slice of the program that names chunk `n` -/

/-- The slice of the array read, as the program spells it. -/
abbrev xAt (off : Fin 1 → ℕ) (inb : ∀ a, off a + S16384.size a ≤ S16777216.size a) : Memref sig .scVector .hbm S16384 .f32 :=
  xV.slice (Rect.unit (s := S16777216) off S16384.size inb) (fun _ => rfl)
/-- The slice of the array filled, as the program spells it. -/
abbrev yAt (off : Fin 1 → ℕ) (inb : ∀ a, off a + S16384.size a ≤ S16777216.size a) : Memref sig .scVector .hbm S16384 .f32 :=
  yV.slice (Rect.unit (s := S16777216) off S16384.size inb) (fun _ => rfl)

variable {off : Fin 1 → ℕ} {inb : ∀ a, off a + S16384.size a ≤ S16777216.size a} {n : ℕ}

/-- A rectangle of 16384 places from `16384 n` on is chunk `n`. -/
theorem set_unit_seg (h : off = ![16384 * n]) : (Rect.unit (s := S16777216) off S16384.size inb).set = seg n := by
  subst h
  ext i
  rw [Rect.mem_set_unit, mem_seg]
  constructor
  · intro H; exact H 0
  · intro H b; fin_cases b; exact H

/-- The `q`-th place of that rectangle is the `q`-th of the chunk. -/
theorem emb_unit_seg (h : off = ![16384 * n]) (q : S16384.Idx) :
    ((Rect.unit (s := S16777216) off S16384.size inb).emb q 0).val = 16384 * n + (q 0).val := by
  subst h
  rw [Rect.emb_apply]
  show 16384 * n + 1 * (q 0).val = _
  rw [Nat.one_mul]

/-- A slice of the array read, from `16384 n` on, is chunk `n`. -/
theorem set_xAt (h : off = ![16384 * n]) : (xAt off inb).view.set = seg n := by
  show ((View.whole (main_v2_scv : Ref sig .scVector)).slice (Rect.unit (s := S16777216) off S16384.size inb)).set = _
  rw [View.set_slice, ← set_unit_seg (inb := inb) h]
  exact Finset.map_refl

/-- A slice of the array filled, from `16384 n` on, is chunk `n`. -/
theorem set_yAt (h : off = ![16384 * n]) : (yAt off inb).view.set = seg n := by
  show ((View.whole (main_v3_scv : Ref sig .scVector)).slice (Rect.unit (s := S16777216) off S16384.size inb)).set = _
  rw [View.set_slice, ← set_unit_seg (inb := inb) h]
  exact Finset.map_refl

/-- What is read through the slice is the chunk's contents. -/
theorem read_xAt (h : off = ![16384 * n]) (f : S16777216.Idx → F .f32) :
    (xAt off inb).view.read (Elt F) f = chunkOf f n := by
  funext q
  refine (show _ = f ((Rect.unit (s := S16777216) off S16384.size inb).emb q) from rfl).trans ?_
  exact (seqOf_eq _ f _ _ (emb_unit_seg (inb := inb) h q).symm).symm

/-- A chunk's answer written through the slice agrees, on the chunk, with the whole answer. -/
theorem stored_yAt (h : off = ![16384 * n]) (hn : n < 1024) (x g : S16777216.Idx → F .f32) :
    ∀ i ∈ seg n, (yAt off inb).view.writes (Elt F) g [⟨Rect.whole S16384, chunkOut (chunkOf x n)⟩] i = wholeOut x i := by
  intro i hi
  rw [← set_unit_seg (inb := inb) h] at hi
  obtain ⟨q, rfl⟩ := (Rect.unit (s := S16777216) off S16384.size inb).exists_idx_of_mem hi
  have hw := View.write_emb_of_mem (v := (yAt off inb).view.slice (Rect.whole S16384)) (Val := Elt F) g
    (chunkOut (chunkOf x n)) (Finset.mem_univ q)
  have hq : (Rect.whole S16384).emb q = q := by
    funext a
    refine Fin.ext ?_
    rw [Rect.emb_apply]
    show 0 + 1 * (q a).val = _
    omega
  have he : ((yAt off inb).view.slice (Rect.whole S16384)).emb q
      = (Rect.unit (s := S16777216) off S16384.size inb).emb q := by
    refine Eq.trans ?_ (congrArg (Rect.unit (s := S16777216) off S16384.size inb).emb hq)
    rfl
  refine Eq.trans ?_ (chunkOut_chunkOf x n hn q _ (emb_unit_seg (inb := inb) h q))
  rw [he] at hw
  exact hw

/-! ## Chunks held -/

/-- The array read, on device `d`. -/
abbrev xLoc (d : Dev nD) : Loc nD τ sig := (SparseCore.T d).loc main_v2
/-- The array filled, on device `d`. -/
abbrev yLoc (d : Dev nD) : Loc nD τ sig := (SparseCore.T d).loc main_v3

/-- Chunk `n` of the array read, at the contents `f`. -/
abbrev xSeg (d : Dev nD) (f : S16777216.Idx → F .f32) (n : ℕ) : sProp 𝕄 :=
  xLoc d ↦[seg n]{fullShare} (f : Buf (Elt F) (xLoc d))
/-- Chunk `n` of the array filled, at the contents `f`. -/
abbrev ySeg (d : Dev nD) (f : S16777216.Idx → F .f32) (n : ℕ) : sProp 𝕄 :=
  yLoc d ↦[seg n]{fullShare} (f : Buf (Elt F) (yLoc d))

variable (d : Dev nD) (L : grid0.Coords)

/-- Chunk `n` of the array read, held through the slice that the program names. -/
theorem xSeg_eq (h : off = ![16384 * n]) (f : S16777216.Idx → F .f32) :
    (xSeg d f n : sProp 𝕄) = (xAt off inb).view.loc (tileOf d L) ↦[(xAt off inb).view.set]{fullShare} f := by
  rw [set_xAt h]

/-- Chunk `n` of the array filled, held through the slice that the program names. -/
theorem ySeg_eq (h : off = ![16384 * n]) (f : S16777216.Idx → F .f32) :
    (ySeg d f n : sProp 𝕄) = (yAt off inb).view.loc (tileOf d L) ↦[(yAt off inb).view.set]{fullShare} f := by
  rw [set_yAt h]

end Cert.Proof
-- ==== Proof.Between.lean ====
/-
  A tile between its trips. Each tile has 32 chunks and makes sixteen trips, two chunks a trip, one through each pair of
  buffers; while one chunk is worked on, the next is fetched and an earlier answer is stored. The module says which
  chunk each copy names, what the tile holds before a trip and half way through it, which chunks are done and which are
  to come, and what a landed copy delivers.
-/
module

public import proofs.«01_k».proof.Proof.Pieces

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
local notation "𝕄" => MT nD τ sig (HIx 1) (Elt F) ℕ UU ℕ

/-! ## Trip-number conditions -/

/-- In every trip a second chunk follows the first. -/
theorem cond_next (k : Fin k0_t1_loop.trips) : k0_cond1 k = 1#1 := by decide +revert
/-- The first output buffer has a store to wait for from the second trip on. -/
theorem cond_firstA (k : Fin k0_t1_loop.trips) : k0_cond2 k = 1#1 ↔ k.val ≠ 0 := by decide +revert
/-- A further chunk is fetched in every trip but the last. -/
theorem cond_more (k : Fin k0_t1_loop.trips) : k0_cond3 k = 1#1 ↔ k.val < 15 := by decide +revert
/-- The second output buffer has a store to wait for from the second trip on. -/
theorem cond_firstB (k : Fin k0_t1_loop.trips) : k0_cond4 k = 1#1 ↔ k.val ≠ 0 := by decide +revert

/-- The first chunk of a tile. -/
abbrev base (L : grid0.Coords) : ℕ := 32 * (2 * (L 1).val + (L 0).val)

/-- The second fetch of trip `k` names the tile's chunk `2 k + 1`. -/
theorem off2_seg (L : grid0.Coords) (k : Fin k0_t1_loop.trips) : k0_off2 L k = ![16384 * (base L + (2 * k.val + 1))] := by
  rw [k0_off2_eq]; congr 1; simp only [base]; omega
/-- The first store of trip `k` names the tile's chunk `2 k`. -/
theorem off3_seg0 (L : grid0.Coords) (k : Fin k0_t1_loop.trips) : k0_off3 L k 0#32 = ![16384 * (base L + 2 * k.val)] := by
  refine (k0_off3_eq L k 0).trans ?_; congr 1; simp only [base]; show _ + 16384 * 0 = _; omega
/-- The second store of trip `k` names the tile's chunk `2 k + 1`. -/
theorem off3_seg1 (L : grid0.Coords) (k : Fin k0_t1_loop.trips) : k0_off3 L k 1#32 = ![16384 * (base L + (2 * k.val + 1))] := by
  refine (k0_off3_eq L k 1).trans ?_; congr 1; simp only [base]; show _ + 16384 * 1 = _; omega
/-- The fetch ahead of trip `k + 1` names the tile's chunk `2 k + 2`. -/
theorem off7_seg (L : grid0.Coords) (k : Fin k0_t1_loop.trips) : k0_off7 L k = ![16384 * (base L + (2 * k.val + 2))] := by
  rw [k0_off7_eq]; congr 1; simp only [base]; omega
/-- The fetch before the first trip names the tile's first chunk. -/
theorem off1_seg (L : grid0.Coords) : k0_off1 L 0#32 = ![16384 * (base L + 0)] := by
  have h : ∀ i : grid0.Coords, k0_off1 i 0#32 0 = 16384 * (base i + 0) := by decide +kernel
  funext a
  fin_cases a
  exact h L

variable (d : Dev nD) (L : grid0.Coords)

/-- Where the copies' counters lie in the whole algebra. -/
abbrev EC : UEmb Counters 𝕄 := countersEmb

/-! ## What a tile holds between trips -/

section States

variable (x y : S16777216.Idx → F .f32) (O : CellTallies nD τ sig (HIx 1)) (W : Waits sig (HIx 1))

/-- The chunks before the tile's `n`-th, each at what `Φ` says. -/
def done (Φ : ℕ → sProp 𝕄) (n : ℕ) : sProp 𝕄 := bigSep (Finset.range n) fun j => Φ (base L + j)
/-- The chunks from the tile's `n`-th on, each at what `Φ` says. -/
def todo (Φ : ℕ → sProp 𝕄) (n : ℕ) : sProp 𝕄 := bigSep (Finset.Ico n 32) fun j => Φ (base L + j)

/-- One chunk more is done. -/
theorem done_succ (Φ : ℕ → sProp 𝕄) (n : ℕ) : done L Φ (n + 1) = iprop(Φ (base L + n) ∗ done L Φ n) := by
  unfold done
  rw [Finset.range_add_one, SparseCore.bigSep_insert' Finset.notMem_range_self]

/-- The next of the tile's chunks still to come is taken out. -/
theorem todo_take (Φ : ℕ → sProp 𝕄) (n : ℕ) (hn : n < 32) : todo L Φ n = iprop(Φ (base L + n) ∗ todo L Φ (n + 1)) := by
  unfold todo
  rw [← Finset.insert_Ico_add_one_left_eq_Ico hn, SparseCore.bigSep_insert' (by simp)]

/-- The waits recorded so far belong to no launch or to the one launch. -/
def owing : sProp 𝕄 :=
  iprop(∃ W', ⌜∀ p ∈ W', p ∈ W ∨ p.2 = none ∨ p.2 = some (0 : Fin 1)⌝ ∗ owes (tileOf d L) O W')

/-- The first input buffer before trip `k`: the fetch of the tile's chunk `2 k` is in flight; after the last trip the
    buffer is free. -/
def fetched (k : ℕ) : sProp 𝕄 :=
  if k < 16 then
    Transfers.Flight EC (tileOf d L) (.dma cc0_scratch4.sem) default 524288
      iprop((inA.view.loc (tileOf d L) ↦{fullShare} (chunkOf x (base L + 2 * k) : Buf (Elt F) (inA.view.loc (tileOf d L))))
        ∗ xSeg d x (base L + 2 * k))
  else
    iprop((∃ f : Buf (Elt F) (inA.view.loc (tileOf d L)), inA.view.loc (tileOf d L) ↦{fullShare} f)
      ∗ semVal (tileOf d L, .dma cc0_scratch4.sem) 0)

/-- The first output buffer before trip `k`: free at first, then on its way to the tile's chunk `2 (k - 1)`. -/
def storedA : ℕ → sProp 𝕄
  | 0 => iprop((∃ f : Buf (Elt F) (outA.view.loc (tileOf d L)), outA.view.loc (tileOf d L) ↦{fullShare} f)
      ∗ semVal (tileOf d L, .dma cc0_scratch6.sem) 0)
  | k + 1 => Transfers.Flight EC (tileOf d L) (.dma cc0_scratch6.sem) default 524288
      iprop(ySeg d (wholeOut x) (base L + 2 * k)
        ∗ (outA.view.loc (tileOf d L) ↦{fullShare}
            (chunkOut (chunkOf x (base L + 2 * k)) : Buf (Elt F) (outA.view.loc (tileOf d L)))))

/-- The second output buffer before trip `k`: free at first, then on its way to the tile's chunk `2 (k - 1) + 1`. -/
def storedB : ℕ → sProp 𝕄
  | 0 => iprop((∃ f : Buf (Elt F) (outB.view.loc (tileOf d L)), outB.view.loc (tileOf d L) ↦{fullShare} f)
      ∗ semVal (tileOf d L, .dma cc0_scratch7.sem) 0)
  | k + 1 => Transfers.Flight EC (tileOf d L) (.dma cc0_scratch7.sem) default 524288
      iprop(ySeg d (wholeOut x) (base L + (2 * k + 1))
        ∗ (outB.view.loc (tileOf d L) ↦{fullShare}
            (chunkOut (chunkOf x (base L + (2 * k + 1))) : Buf (Elt F) (outB.view.loc (tileOf d L)))))

/-- Before trip `k`. -/
def before (k : ℕ) : sProp 𝕄 :=
  iprop(Transfers.MayWaits (tileOf d L) (default : HIx 1) O ∗ owing d L O W ∗ fetched d L x k
    ∗ (∃ f : Buf (Elt F) (inB.view.loc (tileOf d L)), inB.view.loc (tileOf d L) ↦{fullShare} f)
    ∗ semVal (tileOf d L, .dma cc0_scratch5.sem) 0
    ∗ storedA d L x k ∗ storedB d L x k
    ∗ done L (xSeg d x) (2 * k) ∗ todo L (xSeg d x) (2 * k + 1)
    ∗ done L (ySeg d (wholeOut x)) (2 * k - 2) ∗ todo L (ySeg d y) (2 * k))

/-- Half way through trip `k`: the first pair of buffers has had its turn. -/
def half (k : ℕ) : sProp 𝕄 :=
  iprop(Transfers.MayWaits (tileOf d L) (default : HIx 1) O ∗ owing d L O W ∗ fetched d L x (k + 1)
    ∗ (inB.view.loc (tileOf d L) ↦{fullShare} (chunkOf x (base L + (2 * k + 1)) : Buf (Elt F) (inB.view.loc (tileOf d L))))
    ∗ semVal (tileOf d L, .dma cc0_scratch5.sem) 0
    ∗ storedA d L x (k + 1) ∗ storedB d L x k
    ∗ done L (xSeg d x) (2 * k + 2) ∗ todo L (xSeg d x) (2 * k + 3)
    ∗ done L (ySeg d (wholeOut x)) (2 * k - 1) ∗ todo L (ySeg d y) (2 * k + 1))

/-- A tile makes sixteen trips. -/
theorem trips_lt (k : Fin k0_t1_loop.trips) : k.val < 16 := k.isLt

/-- With the first pair of buffers at any contents, its inner loop can begin. -/
theorem innerA_start (f g : S16384.Idx → F .f32) :
    iprop((inA.view.loc (tileOf d L) ↦{fullShare} (f : Buf (Elt F) (inA.view.loc (tileOf d L))))
      ∗ (outA.view.loc (tileOf d L) ↦{fullShare} (g : Buf (Elt F) (outA.view.loc (tileOf d L))))) ⊢ (innerA d L f 0 : sProp 𝕄) := by
  unfold innerA
  iintro ⟨Hi, Ho⟩
  isplitl [Hi]
  · iexact Hi
  iexists g
  isplitr
  · ipureintro
    exact upTo_zero f g
  iexact Ho

/-- Its inner loop leaves the chunk's answer in the first output buffer. -/
theorem innerA_end (f : S16384.Idx → F .f32) : (innerA d L f (Scf.trips k0_t2_loop.lb k0_t2_loop.ub k0_t2_loop.st) : sProp 𝕄) ⊢
    iprop((inA.view.loc (tileOf d L) ↦{fullShare} (f : Buf (Elt F) (inA.view.loc (tileOf d L))))
      ∗ (outA.view.loc (tileOf d L) ↦{fullShare} (chunkOut f : Buf (Elt F) (outA.view.loc (tileOf d L))))) := by
  unfold innerA
  iintro ⟨Hi, %g, %hg, Ho⟩
  obtain rfl := upTo_all hg
  isplitl [Hi]
  · iexact Hi
  iexact Ho

/-- With the second pair of buffers at any contents, its inner loop can begin. -/
theorem innerB_start (f g : S16384.Idx → F .f32) :
    iprop((inB.view.loc (tileOf d L) ↦{fullShare} (f : Buf (Elt F) (inB.view.loc (tileOf d L))))
      ∗ (outB.view.loc (tileOf d L) ↦{fullShare} (g : Buf (Elt F) (outB.view.loc (tileOf d L))))) ⊢ (innerB d L f 0 : sProp 𝕄) := by
  unfold innerB
  iintro ⟨Hi, Ho⟩
  isplitl [Hi]
  · iexact Hi
  iexists g
  isplitr
  · ipureintro
    exact upTo_zero f g
  iexact Ho

/-- Its inner loop leaves the chunk's answer in the second output buffer. -/
theorem innerB_end (f : S16384.Idx → F .f32) : (innerB d L f (Scf.trips k0_t3_loop.lb k0_t3_loop.ub k0_t3_loop.st) : sProp 𝕄) ⊢
    iprop((inB.view.loc (tileOf d L) ↦{fullShare} (f : Buf (Elt F) (inB.view.loc (tileOf d L))))
      ∗ (outB.view.loc (tileOf d L) ↦{fullShare} (chunkOut f : Buf (Elt F) (outB.view.loc (tileOf d L))))) := by
  unfold innerB
  iintro ⟨Hi, %g, %hg, Ho⟩
  obtain rfl := upTo_all hg
  isplitl [Hi]
  · iexact Hi
  iexact Ho

/-- What a landed fetch of chunk `n` delivers to the first input buffer. -/
theorem landed_inA {off : Fin 1 → ℕ} {inb : ∀ a, off a + S16384.size a ≤ S16777216.size a} {n : ℕ} (h : off = ![16384 * n])
    (b : Buf (Elt F) (inA.view.loc (tileOf d L))) :
    iprop((inA.view.loc (tileOf d L) ↦{fullShare} View.write (Elt F) inA.view b ((xAt off inb).view.read (Elt F) x) Finset.univ)
      ∗ ((xAt off inb).view.loc (tileOf d L) ↦[(xAt off inb).view.set]{fullShare} x))
    ⊢ iprop((inA.view.loc (tileOf d L) ↦{fullShare} (chunkOf x n : Buf (Elt F) (inA.view.loc (tileOf d L)))) ∗ xSeg d x n : sProp 𝕄) := by
  rw [xSeg_eq d L (inb := inb) h, read_xAt h, show View.write (Elt F) inA.view b (chunkOf x n) Finset.univ = chunkOf x n from View.write_whole_univ _ _ _]

/-- What a landed fetch of chunk `n` leaves in the second input buffer. -/
theorem landed_inB {off : Fin 1 → ℕ} {inb : ∀ a, off a + S16384.size a ≤ S16777216.size a} {n : ℕ} (h : off = ![16384 * n])
    (b : Buf (Elt F) (inB.view.loc (tileOf d L))) :
    (inB.view.loc (tileOf d L) ↦{fullShare} View.write (Elt F) inB.view b ((xAt off inb).view.read (Elt F) x) Finset.univ : sProp 𝕄)
    ⊢ (inB.view.loc (tileOf d L) ↦{fullShare} (chunkOf x n : Buf (Elt F) (inB.view.loc (tileOf d L)))) := by
  rw [read_xAt h, show View.write (Elt F) inB.view b (chunkOf x n) Finset.univ = chunkOf x n from View.write_whole_univ _ _ _]

/-- What a landed store of chunk `n`'s answer from the first output buffer delivers. -/
theorem landed_outA {off : Fin 1 → ℕ} {inb : ∀ a, off a + S16384.size a ≤ S16777216.size a} {n : ℕ} (h : off = ![16384 * n])
    (hn : n < 1024) :
    iprop(((yAt off inb).view.loc (tileOf d L) ↦[(yAt off inb).view.set]{fullShare}
        (yAt off inb).view.writes (Elt F) y [⟨Rect.whole S16384, outA.view.read (Elt F) (chunkOut (chunkOf x n))⟩])
      ∗ (outA.view.loc (tileOf d L) ↦[outA.view.set]{fullShare} (chunkOut (chunkOf x n) : Buf (Elt F) (outA.view.loc (tileOf d L)))))
    ⊢ iprop(ySeg d (wholeOut x) n
      ∗ (outA.view.loc (tileOf d L) ↦{fullShare} (chunkOut (chunkOf x n) : Buf (Elt F) (outA.view.loc (tileOf d L)))) : sProp 𝕄) := by
  rw [set_yAt h, pointsTo_congr (stored_yAt h hn x y), show outA.view.set = Finset.univ from View.set_whole _]

/-- What a landed store of chunk `n`'s answer from the second output buffer delivers. -/
theorem landed_outB {off : Fin 1 → ℕ} {inb : ∀ a, off a + S16384.size a ≤ S16777216.size a} {n : ℕ} (h : off = ![16384 * n])
    (hn : n < 1024) :
    iprop(((yAt off inb).view.loc (tileOf d L) ↦[(yAt off inb).view.set]{fullShare}
        (yAt off inb).view.writes (Elt F) y [⟨Rect.whole S16384, outB.view.read (Elt F) (chunkOut (chunkOf x n))⟩])
      ∗ (outB.view.loc (tileOf d L) ↦[outB.view.set]{fullShare} (chunkOut (chunkOf x n) : Buf (Elt F) (outB.view.loc (tileOf d L)))))
    ⊢ iprop(ySeg d (wholeOut x) n
      ∗ (outB.view.loc (tileOf d L) ↦{fullShare} (chunkOut (chunkOf x n) : Buf (Elt F) (outB.view.loc (tileOf d L)))) : sProp 𝕄) := by
  rw [set_yAt h, pointsTo_congr (stored_yAt h hn x y), show outB.view.set = Finset.univ from View.set_whole _]

/-- Past the tile's last chunk nothing is to come. -/
theorem todo_none (Φ : ℕ → sProp 𝕄) (n : ℕ) (hn : 32 ≤ n) : todo L Φ n = todo L Φ (n + 1) := by
  unfold todo
  rw [Finset.Ico_eq_empty (by omega), Finset.Ico_eq_empty (by omega)]

/-- One more wait of the tile's own is recorded. -/
theorem noted {W W' : Waits sig (HIx 1)} {s : SemLoc sig} (h : ∀ p ∈ W', p ∈ W ∨ p.2 = none ∨ p.2 = some (0 : Fin 1)) :
    ∀ p ∈ insert (s, (default : HIx 1)) W', p ∈ W ∨ p.2 = none ∨ p.2 = some (0 : Fin 1) := by
  intro p hp
  rcases Finset.mem_insert.1 hp with rfl | hp
  · exact .inr (.inl rfl)
  · exact h p hp

/-- A tile's 32 chunks are among the 1024. -/
theorem base_lt : base L + 32 ≤ 1024 := by
  have h0 : (L 0).val < 2 := (L 0).isLt
  have h1 : (L 1).val < 16 := (L 1).isLt
  simp only [base]; omega

end States

end Cert.Proof
-- ==== Proof.FirstHalf.lean ====
/-
  The first half of a trip: the second chunk's fetch is begun, the first chunk is awaited, an earlier answer's store is
  awaited if there is one, the first pair of buffers is worked through, its store is begun, the next trip's fetch is
  begun if there is one, and the second chunk is awaited.
-/
module

public import proofs.«01_k».proof.Proof.Between

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
local notation "𝕄" => MT nD τ sig (HIx 1) (Elt F) ℕ UU ℕ

variable (d : Dev nD) (L : grid0.Coords) (x y : S16777216.Idx → F .f32) (O : CellTallies nD τ sig (HIx 1)) (W : Waits sig (HIx 1))

set_option sl_exec.stopBefore "k0_t2_loop" in
/-- From what the tile holds before trip `k`, the trip's first half leads to what it holds half way through. -/
theorem first_half (v2 : BitVec 32) (k : Fin k0_t1_loop.trips) :
    (before d L x y O W k.val : sProp 𝕄)
      ⊢ wp frame (wpE (defs₀ (F := F)) 𝒱₀ (tileOf d L) none) Set.univ
          (k0_part7 (F := F) L xV (Memref.isWhole_whole _) yV (Memref.isWhole_whole _) inA (Memref.isWhole_whole _)
            inB (Memref.isWhole_whole _) outA (Memref.isWhole_whole _) outB (Memref.isWhole_whole _)
            cc0_scratch4 cc0_scratch5 cc0_scratch6 cc0_scratch7 v2 k0_pay1 0#32 1#32 k)
          fun _ => half d L x y O W k.val := by
  have hk := trips_lt k
  have k0_h1 := cond_next k
  unfold before owing fetched
  rw [if_pos hk, todo_take L _ (2 * k.val + 1) (by omega), todo_take L _ (2 * k.val) (by omega),
    xSeg_eq d L (off2_seg L k) (inb := k0_off2_inb L k (cond_next k)), ySeg_eq d L (off3_seg0 L k) (inb := k0_off3_inb L k 0)]
  iintro ⟨#Hmw, ⟨%W', %hW', HO⟩, Hin, ⟨%fb, HB⟩, Hs1, HsA, HsB, HXd, ⟨Hx1, HXt⟩, HYd, ⟨Hy0, HYt⟩⟩
  have hb := base_lt L
  sl_unfold [k0_part7]
  by_cases k0_h2 : k0_cond2 k = 1#1
  on_goal 1 =>
    obtain ⟨j, hj⟩ : ∃ j, k.val = j + 1 := ⟨k.val - 1, by have := (cond_firstA k).1 k0_h2; omega⟩
    ihave HsA := (Entails.of_eq (show storedA d L x k.val = storedA d L x (j + 1) by rw [hj])) $$ HsA
    unfold storedA
    sl_exec
    sl_for (fun n _ => innerA d L (chunkOf x (base L + 2 * k.val)) n) $$ [Hin_dst HsA_src]
    · exact fun n acc => trip_first d L v2 k n acc _
    · iapply innerA_start
      isplitl [Hin_dst]
      · iexact Hin_dst
      iexact HsA_src
    iintro %_ HI
    ihave HYd := (show iprop(ySeg d (wholeOut x) (base L + 2 * j) ∗ done L (ySeg d (wholeOut x)) (2 * k.val - 2))
        ⊢ (done L (ySeg d (wholeOut x)) (2 * k.val - 1) : sProp 𝕄) by
      rw [show 2 * k.val - 1 = 2 * j + 1 by omega, show 2 * k.val - 2 = 2 * j by omega, done_succ]) $$ [HsA_dst HYd]
    · isplitl [HsA_dst]
      · iexact HsA_dst
      iexact HYd
  on_goal 2 =>
    have hk0 : k.val = 0 := by_contra fun h => k0_h2 ((cond_firstA k).2 h)
    ihave HsA := (Entails.of_eq (show storedA d L x k.val = storedA d L x 0 by rw [hk0])) $$ HsA
    unfold storedA
    icases HsA with ⟨⟨%g, Hout⟩, HsA⟩
    sl_exec
    sl_for (fun n _ => innerA d L (chunkOf x (base L + 2 * k.val)) n) $$ [Hin_dst Hout]
    · exact fun n acc => trip_first d L v2 k n acc _
    · iapply innerA_start
      isplitl [Hin_dst]
      · iexact Hin_dst
      iexact Hout
    iintro %_ HI
    ihave HYd := (Entails.of_eq (show (done L (ySeg d (wholeOut x)) (2 * k.val - 2) : sProp 𝕄)
      = done L (ySeg d (wholeOut x)) (2 * k.val - 1) by rw [hk0])) $$ HYd
  all_goals
    ihave HI := innerA_end d L (chunkOf x (base L + 2 * k.val)) $$ HI
    icases HI with ⟨Hin', Hout⟩
    by_cases k0_h3 : k0_cond3 k = 1#1
    on_goal 1 =>
      have hk3 := (cond_more k).1 k0_h3
      ihave HXt := (Entails.of_eq (show (todo L (xSeg d x) (2 * k.val + 1 + 1) : sProp 𝕄) = iprop(_ ∗ _) by
        rw [todo_take L _ (2 * k.val + 1 + 1) (by omega),
          xSeg_eq d L (off7_seg L k) (inb := k0_off7_inb L k k0_h3)])) $$ HXt
      icases HXt with ⟨Hx2, HXt⟩
      sl_exec
      ihave Hin := (BIBase.Entails.rfl (P := fetched d L x (k.val + 1))) $$ [Hin]
      · unfold fetched
        rw [if_pos (by omega)]
        iapply (Transfers.Flight_mono EC _ (landed_inA d L x (off7_seg L k) _))
        iexact Hin
    on_goal 2 =>
      have hk3 := mt (cond_more k).2 k0_h3
      ihave HXt := (Entails.of_eq (todo_none L (xSeg d x) (2 * k.val + 1 + 1) (by omega))) $$ HXt
      sl_exec
      ihave Hin := (show iprop((inA.view.loc (tileOf d L) ↦{fullShare}
            (chunkOf x (base L + 2 * k.val) : Buf (Elt F) (inA.view.loc (tileOf d L))))
          ∗ semVal (tileOf d L, .dma cc0_scratch4.sem) 0) ⊢ fetched d L x (k.val + 1) by
        unfold fetched
        rw [if_neg (by omega)]
        iintro ⟨Hin', Hin⟩
        isplitl [Hin']
        · iexists _; iexact Hin'
        iexact Hin) $$ [Hin' Hin]
      · isplitl [Hin']
        · iexact Hin'
        iexact Hin
    all_goals
      sl_step
      unfold half owing
      isplitr; · iexact Hmw
      isplitl [HO]
      · iexists _
        isplitr; rotate_left; · iexact HO
        ipureintro
        exact noted (noted (by first | exact noted hW' | exact hW'))
      isplitl [Hin]; · iexact Hin
      isplitl [HB]
      · iapply landed_inB d L x (off2_seg L k) fb
        iexact HB
      isplitl [Hs1]; · iexact Hs1
      isplitl [HsA]
      · iapply (show _ ⊢ storedA d L x (k.val + 1) from
          Transfers.Flight_mono EC _ (landed_outA d L x y (off3_seg0 L k) (by omega)))
        iexact HsA
      isplitl [HsB]; · iexact HsB
      isplitl [HXd Hin_src Hx1]
      · rw [done_succ, done_succ, xSeg_eq d L (off2_seg L k) (inb := k0_off2_inb L k (cond_next k))]
        isplitl [Hx1]; · iexact Hx1
        isplitl [Hin_src]; · iexact Hin_src
        iexact HXd
      isplitl [HXt]; · iexact HXt
      isplitl [HYd]; · iexact HYd
      iexact HYt

end Cert.Proof
-- ==== Proof.Trip.lean ====
/-
  One whole trip: the first half, then the second pair of buffers: an earlier answer's store is awaited if there is one,
  the second chunk is worked through, and its store is begun.
-/
module

public import proofs.«01_k».proof.Proof.FirstHalf

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
local notation "𝕄" => MT nD τ sig (HIx 1) (Elt F) ℕ UU ℕ

variable (d : Dev nD) (L : grid0.Coords) (x y : S16777216.Idx → F .f32) (O : CellTallies nD τ sig (HIx 1)) (W : Waits sig (HIx 1))

set_option sl_exec.stopBefore "k0_t3_loop" in
/-- Trip `k` leads from what the tile holds before it to what the tile holds before trip `k + 1`. -/
theorem trip (v2 : BitVec 32) (k : Fin k0_t1_loop.trips) (acc : Unit) :
    (before d L x y O W k.val : sProp 𝕄)
      ⊢ wp frame (wpE (defs₀ (F := F)) 𝒱₀ (tileOf d L) none) Set.univ
          (k0_t1_body (F := F) L xV (Memref.isWhole_whole _) yV (Memref.isWhole_whole _) inA (Memref.isWhole_whole _)
            inB (Memref.isWhole_whole _) outA (Memref.isWhole_whole _) outB (Memref.isWhole_whole _)
            cc0_scratch4 cc0_scratch5 cc0_scratch6 cc0_scratch7 v2 k acc)
          fun _ => before d L x y O W (k.val + 1) := by
  have hk := trips_lt k
  have hb := base_lt L
  refine (first_half d L x y O W v2 k).trans ?_
  unfold k0_t1_body
  rw [wp_bind]
  refine wp_mono frame _ _ fun r => ?_
  obtain ⟨v33, v43, c⟩ := r
  unfold half owing
  rw [todo_take L _ (2 * k.val + 1) (by omega), ySeg_eq d L (off3_seg1 L k) (inb := k0_off3_inb L k 1)]
  iintro ⟨#Hmw, ⟨%W', %hW', HO⟩, Hin, HB, Hs1, HsA, HsB, HXd, HXt, HYd, ⟨Hy0, HYt⟩⟩
  by_cases k0_h4 : k0_cond4 k = 1#1
  on_goal 1 =>
    obtain ⟨j, hj⟩ : ∃ j, k.val = j + 1 := ⟨k.val - 1, by have := (cond_firstB k).1 k0_h4; omega⟩
    ihave HsB := (Entails.of_eq (show storedB d L x k.val = storedB d L x (j + 1) by rw [hj])) $$ HsB
    unfold storedB
    sl_exec
    sl_for (fun n _ => innerB d L (chunkOf x (base L + (2 * k.val + 1))) n) $$ [HB HsB_src]
    · exact fun n acc => trip_second d L n acc _
    · iapply innerB_start
      isplitl [HB]
      · iexact HB
      iexact HsB_src
    iintro %_ HI
    ihave HYd := (show iprop(ySeg d (wholeOut x) (base L + (2 * j + 1)) ∗ done L (ySeg d (wholeOut x)) (2 * k.val - 1))
        ⊢ (done L (ySeg d (wholeOut x)) (2 * (k.val + 1) - 2) : sProp 𝕄) by
      rw [show 2 * (k.val + 1) - 2 = (2 * j + 1) + 1 by omega, show 2 * k.val - 1 = 2 * j + 1 by omega, done_succ L _ (2 * j + 1)]) $$ [HsB_dst HYd]
    · isplitl [HsB_dst]
      · iexact HsB_dst
      iexact HYd
  on_goal 2 =>
    have hk0 : k.val = 0 := by_contra fun h => k0_h4 ((cond_firstB k).2 h)
    ihave HsB := (Entails.of_eq (show storedB d L x k.val = storedB d L x 0 by rw [hk0])) $$ HsB
    unfold storedB
    icases HsB with ⟨⟨%g, Hout⟩, HsB⟩
    sl_exec
    sl_for (fun n _ => innerB d L (chunkOf x (base L + (2 * k.val + 1))) n) $$ [HB Hout]
    · exact fun n acc => trip_second d L n acc _
    · iapply innerB_start
      isplitl [HB]
      · iexact HB
      iexact Hout
    iintro %_ HI
    ihave HYd := (Entails.of_eq (show (done L (ySeg d (wholeOut x)) (2 * k.val - 1) : sProp 𝕄)
      = done L (ySeg d (wholeOut x)) (2 * (k.val + 1) - 2) by rw [hk0])) $$ HYd
  all_goals
    ihave HI := innerB_end d L (chunkOf x (base L + (2 * k.val + 1))) $$ HI
    icases HI with ⟨HB, Hout⟩
    sl_exec
    sl_step
    unfold before owing
    isplitr; · iexact Hmw
    isplitl [HO]
    · iexists _
      isplitr; rotate_left; · iexact HO
      ipureintro
      first | exact noted hW' | exact hW'
    isplitl [Hin]; · iexact Hin
    isplitl [HB]
    · iexists _
      iexact HB
    isplitl [Hs1]; · iexact Hs1
    isplitl [HsA]; · iexact HsA
    isplitl [HsB]
    · iapply (show _ ⊢ storedB d L x (k.val + 1) from
        Transfers.Flight_mono EC _ (landed_outB d L x y (off3_seg1 L k) (by omega)))
      iexact HsB
    isplitl [HXd]; · iexact HXd
    isplitl [HXt]; · iexact HXt
    isplitl [HYd]; · iexact HYd
    iexact HYt

end Cert.Proof
-- ==== Proof.Tile.lean ====
/-
  A tile's whole task: the first fetch, the sixteen trips, the last two stores awaited. It takes the tile's chunks of the
  two arrays, and gives them back with those of the second array at the answer.
-/
module

public import proofs.«01_k».proof.Proof.Trip

@[expose] public section

noncomputable section

namespace Cert.Proof

open Cert.KernelIdeal Cert.KernelIdeal.Gen
open Idealize.ShloMosaic
open Idealize.ShloMosaic.SparseCore (S V T)
open Idealize.ShloMosaic.SparseCore.Cfg (HIx ownBufs ownSems0 ownRefs ownCells mem_ownRefs_of_owner mem_ownCells)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]
local notation "𝕄" => MT nD τ sig (HIx 1) (Elt F) ℕ UU ℕ

variable (d : Dev nD) (L : grid0.Coords) (x y : S16777216.Idx → F .f32) (O : CellTallies nD τ sig (HIx 1)) (W : Waits sig (HIx 1))

/-! ## The tile's own cells and buffers -/

/-- A cell of the tile on device `d`. -/
abbrev cellOf (s : DmaSems sig S_) : GSem nD τ sig := (tileOf d L, .dma s.sem)

/-- The tile's own counters are the four the copies use, and the rest. -/
theorem ownSems0_tile :
    (ownSems0 (tileOf d L) : sProp 𝕄)
      = iprop(semVal (cellOf d L cc0_scratch4) 0 ∗ semVal (cellOf d L cc0_scratch5) 0 ∗ semVal (cellOf d L cc0_scratch6) 0
          ∗ semVal (cellOf d L cc0_scratch7) 0
          ∗ bigSep (((((ownCells (tileOf d L)).erase (cellOf d L cc0_scratch4)).erase (cellOf d L cc0_scratch5)).erase
              (cellOf d L cc0_scratch6)).erase (cellOf d L cc0_scratch7)) fun g => semVal g 0) := by
  have own : ∀ s : DmaSems sig S_, (SemLoc.dma s.sem : SemLoc sig).isScoped .scVector = true →
      cellOf d L s ∈ ownCells (tileOf d L) := fun s h => mem_ownCells.mpr ⟨rfl, h⟩
  have ne : ∀ s s' : DmaSems sig S_, s.sem ≠ s'.sem → cellOf d L s ≠ cellOf d L s' := by
    intro s s' h e
    injection e with _ e
    injection e with e
    exact h e
  unfold ownSems0
  rw [SparseCore.bigSep_erase' (own cc0_scratch4 (by decide)),
    SparseCore.bigSep_erase' (Finset.mem_erase.mpr ⟨ne cc0_scratch5 cc0_scratch4 (by decide), own cc0_scratch5 (by decide)⟩),
    SparseCore.bigSep_erase' (Finset.mem_erase.mpr ⟨ne cc0_scratch6 cc0_scratch5 (by decide),
      Finset.mem_erase.mpr ⟨ne cc0_scratch6 cc0_scratch4 (by decide), own cc0_scratch6 (by decide)⟩⟩),
    SparseCore.bigSep_erase' (Finset.mem_erase.mpr ⟨ne cc0_scratch7 cc0_scratch6 (by decide),
      Finset.mem_erase.mpr ⟨ne cc0_scratch7 cc0_scratch5 (by decide),
        Finset.mem_erase.mpr ⟨ne cc0_scratch7 cc0_scratch4 (by decide), own cc0_scratch7 (by decide)⟩⟩⟩)]

/-- The buffer the tile's processor names `b`. -/
abbrev refOf (b : Ref sig .scVector) : DevRef τ sig := (Proc.scVector (coreOf L) (subOf L)).devRef b

/-- The tile's own buffers are the four scratch buffers at some contents, and the rest. -/
theorem ownBufs_tile :
    (ownBufs (tileOf d L) : sProp 𝕄)
      = iprop((∃ f, (tileOf d L).loc cc0_scratch0 ↦{fullShare} f) ∗ (∃ f, (tileOf d L).loc cc0_scratch1 ↦{fullShare} f)
          ∗ (∃ f, (tileOf d L).loc cc0_scratch2 ↦{fullShare} f) ∗ (∃ f, (tileOf d L).loc cc0_scratch3 ↦{fullShare} f)
          ∗ bigSep (((((ownRefs (τ := τ) (.scVector (coreOf L) (subOf L))).erase (refOf L cc0_scratch0)).erase
              (refOf L cc0_scratch1)).erase (refOf L cc0_scratch2)).erase (refOf L cc0_scratch3))
              fun b => iprop(∃ f, ((d, b) : Loc nD τ sig) ↦{fullShare} f)) := by
  have ne : ∀ b b' : Ref sig .scVector, b ≠ b' → refOf L b ≠ refOf L b' := fun b b' h e => h (Proc.devRef_injective _ e)
  unfold ownBufs
  refine (SparseCore.bigSep_erase' (mem_ownRefs_of_owner (p := Proc.scVector (coreOf L) (subOf L))
    (b := refOf L cc0_scratch0) rfl)).trans ?_
  rw [SparseCore.bigSep_erase' (Finset.mem_erase.mpr ⟨ne cc0_scratch1 cc0_scratch0 (by decide),
      mem_ownRefs_of_owner (p := Proc.scVector (coreOf L) (subOf L)) (b := refOf L cc0_scratch1) rfl⟩),
    SparseCore.bigSep_erase' (Finset.mem_erase.mpr ⟨ne cc0_scratch2 cc0_scratch1 (by decide),
      Finset.mem_erase.mpr ⟨ne cc0_scratch2 cc0_scratch0 (by decide),
        mem_ownRefs_of_owner (p := Proc.scVector (coreOf L) (subOf L)) (b := refOf L cc0_scratch2) rfl⟩⟩),
    SparseCore.bigSep_erase' (Finset.mem_erase.mpr ⟨ne cc0_scratch3 cc0_scratch2 (by decide),
      Finset.mem_erase.mpr ⟨ne cc0_scratch3 cc0_scratch1 (by decide),
        Finset.mem_erase.mpr ⟨ne cc0_scratch3 cc0_scratch0 (by decide),
          mem_ownRefs_of_owner (p := Proc.scVector (coreOf L) (subOf L)) (b := refOf L cc0_scratch3) rfl⟩⟩⟩)]

/-! ## The whole tile -/

/-- The tile's 32 chunks of the two arrays at the contents `x` and `y`. -/
def tileHas (x y : S16777216.Idx → F .f32) : sProp 𝕄 :=
  bigSep (Finset.range 32) fun j => iprop(xSeg d x (base L + j) ∗ ySeg d y (base L + j))

/-- The tile's chunks, those of one array apart from those of the other. -/
theorem tileHas_eq (x y : S16777216.Idx → F .f32) :
    tileHas d L x y = iprop(done L (xSeg d x) 32 ∗ done L (ySeg d y) 32) := by
  unfold tileHas done
  exact BI.bigSep_sep _ _ _

/-- At the start all of the tile's chunks are to come. -/
theorem todo_start (Φ : ℕ → sProp 𝕄) : todo L Φ 0 = done L Φ 32 := by
  unfold todo done
  rw [Finset.range_eq_Ico]

/-- With the first fetch in flight and the other buffers free, the tile holds what it should before its first trip. -/
theorem before_start (fb : Buf (Elt F) (inB.view.loc (tileOf d L))) (ga : Buf (Elt F) (outA.view.loc (tileOf d L)))
    (gb : Buf (Elt F) (outB.view.loc (tileOf d L))) (fa : Buf (Elt F) (inA.view.loc (tileOf d L))) :
    iprop(Transfers.MayWaits (tileOf d L) (default : HIx 1) O ∗ owes (tileOf d L) O W
      ∗ Transfers.Flight EC (tileOf d L) (.dma cc0_scratch4.sem) default 524288
        iprop((inA.view.loc (tileOf d L) ↦{fullShare} View.write (Elt F) inA.view fa
            ((xAt (k0_off1 L 0#32) (k0_off1_inb L 0)).view.read (Elt F) x) Finset.univ)
          ∗ ((xAt (k0_off1 L 0#32) (k0_off1_inb L 0)).view.loc (tileOf d L)
              ↦[(xAt (k0_off1 L 0#32) (k0_off1_inb L 0)).view.set]{fullShare} x))
      ∗ (inB.view.loc (tileOf d L) ↦{fullShare} fb) ∗ semVal (tileOf d L, .dma cc0_scratch5.sem) 0
      ∗ ((outA.view.loc (tileOf d L) ↦{fullShare} ga) ∗ semVal (tileOf d L, .dma cc0_scratch6.sem) 0)
      ∗ ((outB.view.loc (tileOf d L) ↦{fullShare} gb) ∗ semVal (tileOf d L, .dma cc0_scratch7.sem) 0)
      ∗ todo L (xSeg d x) 1 ∗ todo L (ySeg d y) 0)
    ⊢ (before d L x y O W 0 : sProp 𝕄) := by
  unfold before owing fetched storedA storedB
  rw [if_pos (by omega)]
  iintro ⟨Hmw, HO, Hs0, HB, Hs1, ⟨Hoa, Hs2⟩, ⟨Hob, Hs3⟩, HX, HY⟩
  isplitl [Hmw]; · iexact Hmw
  isplitl [HO]
  · iexists W
    isplitr
    · ipureintro
      exact fun p hp => .inl hp
    iexact HO
  isplitl [Hs0]
  · iapply (Transfers.Flight_mono EC _ (landed_inA d L x (off1_seg L) fa))
    iexact Hs0
  isplitl [HB]; · iexists fb; iexact HB
  isplitl [Hs1]; · iexact Hs1
  isplitl [Hoa Hs2]
  · isplitl [Hoa]; · iexists ga; iexact Hoa
    iexact Hs2
  isplitl [Hob Hs3]
  · isplitl [Hob]; · iexists gb; iexact Hob
    iexact Hs3
  unfold done
  isplitr; · iempintro
  isplitl [HX]; · iexact HX
  isplitr; · iempintro
  iexact HY

set_option sl_exec.stopBefore "k0_t1_loop" in
/-- The task of one tile turns its chunks of `y` into the answer. -/
theorem tile_body (hF : (K (F := F)).Facts) (hO : ∀ g, O g none = 0) :
    iprop(levAts (K (F := F)).L (K (F := F)).lev ∗ emp ∗ tileHas d L x y
        ∗ scopedBufs (tileOf d L) ∗ scopedSems0 (tileOf d L) ∗ owes (tileOf d L) O W)
      ⊢ wp frame (wpE (defs₀ (F := F)) 𝒱₀ (tileOf d L) none) Set.univ
          (cc0__k L xV (Memref.isWhole_whole _) yV (Memref.isWhole_whole _) inA (Memref.isWhole_whole _)
            inB (Memref.isWhole_whole _) outA (Memref.isWhole_whole _) outB (Memref.isWhole_whole _)
            cc0_scratch4 cc0_scratch5 cc0_scratch6 cc0_scratch7)
          fun _ => iprop(tileHas d L x (wholeOut x) ∗ scopedBufs (tileOf d L) ∗ scopedSems0 (tileOf d L)
            ∗ ∃ W', ⌜∀ p ∈ W', p ∈ W ∨ p.2 = none ∨ p.2 = some (0 : Fin 1)⌝ ∗ owes (tileOf d L) O W') := by
  rw [(K (F := F)).scopedBufs_V hF d (coreOf L) (subOf L), SparseCore.Cfg.scopedSems0_V (Val := Elt F) d (coreOf L) (subOf L),
    ownSems0_tile, ownBufs_tile, show tileHas d L x y = iprop((_ ∗ _) ∗ _) by
      rw [tileHas_eq, ← todo_start, ← todo_start, todo_take L _ 0 (by omega), xSeg_eq d L (off1_seg L) (inb := k0_off1_inb L 0)]]
  iintro ⟨#Hlv, -, ⟨⟨Hx0, HXt⟩, HYt⟩, ⟨⟨%fa, Ha⟩, HB, ⟨%ga, Hoa⟩, ⟨%gb, Hob⟩, Hbufs⟩, ⟨Hs0, Hs1, Hs2, Hs3, Hsems⟩, HO⟩
  ihave Hmw := (show levAts (K (F := F)).L (K (F := F)).lev ⊢ Transfers.MayWaits (tileOf d L) (default : HIx 1) O from
    (K (F := F)).mayWaits_none (thr := tileOf d L) hO) $$ Hlv
  ihave Ha' := (show ((tileOf d L).loc cc0_scratch0 ↦{fullShare} fa : sProp 𝕄)
    ⊢ (inA.view.loc (tileOf d L) ↦{fullShare} fa) from .rfl) $$ Ha
  sl_unfold [cc0__k]
  sl_exec
  sl_for (fun n _ => before d L x y O W n) $$ [Hmw HO Hs0 HB Hs1 Hoa Hs2 Hob Hs3 HXt HYt]
  · intro n acc
    have h := trip d L x y O W (tile_body.sl.v2 L) n acc
    delta tile_body.sl.prog.body_1
    convert h using 2
  · icases HB with ⟨%fb, HB⟩
    iapply before_start d L x y O W fb ga gb fa
    isplitl [Hmw]; · iexact Hmw
    isplitl [HO]; · iexact HO
    isplitl [Hs0]; · iexact Hs0
    isplitl [HB]; · iexact HB
    isplitl [Hs1]; · iexact Hs1
    isplitl [Hoa Hs2]
    · isplitl [Hoa]; · iexact Hoa
      iexact Hs2
    isplitl [Hob Hs3]
    · isplitl [Hob]; · iexact Hob
      iexact Hs3
    isplitl [HXt]; · iexact HXt
    iexact HYt
  iintro %_ HI
  ihave HI := (show before d L x y O W (Scf.trips k0_t1_loop.lb k0_t1_loop.ub k0_t1_loop.st) ⊢ before d L x y O W 16 from .rfl) $$ HI
  unfold before owing fetched
  rw [if_neg (by omega)]
  icases HI with ⟨#Hmw, ⟨%W', %hW', HO⟩, ⟨Hin, Hs0⟩, HB, Hs1, HsA, HsB, HXd, -, HYd, -⟩
  unfold storedA storedB
  sl_exec
  sl_step
  rw [tileHas_eq, show done L (ySeg d (wholeOut x)) 32 = iprop(_ ∗ _ ∗ _) from
    (done_succ L _ 31).trans (congrArg (fun P => iprop(_ ∗ P)) (done_succ L _ 30))]
  isplitl [HXd HYd HsA_dst HsB_dst]
  · isplitl [HXd]; · iexact HXd
    isplitl [HsB_dst]; · iexact HsB_dst
    isplitl [HsA_dst]; · iexact HsA_dst
    iexact HYd
  isplitl [Hin HB HsA_src HsB_src Hbufs]
  · isplitl [Hin]; · iexact Hin
    isplitl [HB]; · iexact HB
    isplitl [HsA_src]; · iexists _; iexact HsA_src
    isplitl [HsB_src]; · iexists _; iexact HsB_src
    iexact Hbufs
  isplitl [Hs0 Hs1 HsA HsB Hsems]
  · isplitl [Hs0]; · iexact Hs0
    isplitl [Hs1]; · iexact Hs1
    isplitl [HsA]; · iexact HsA
    isplitl [HsB]; · iexact HsB
    iexact Hsems
  iexists _
  isplitr; rotate_left; · iexact HO
  ipureintro
  exact noted (noted hW')

end Cert.Proof
-- ==== Proof.Launch.lean ====
/-
  What the call carries between the TensorCore and the tiles, and the obligations the launch asks of the call: each
  tile's task keeps its promise, a SparseCore's share is its sixteen tiles' shares, and the two arrays split into the
  two SparseCores' shares and come back whole.
-/
module

public import proofs.«01_k».proof.Proof.Tile

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]
local notation "𝕄" => MT nD τ sig (HIx 1) (Elt F) ℕ UU ℕ

/-! ## The values before and after the call -/

/-- The flat array the tiles read, from the argument: blocks of 128 pairs, each block's lower numbers then its upper. -/
def flatIn (a : S8388608x2.Idx → F .f32) : S16777216.Idx → F .f32 :=
  shapeCast S16777216 (transpose S65536x2x128 [0, 2, 1] (shapeCast S65536x128x2 a shapeCasts_S8388608x2_S65536x128x2)
    transposes_S65536x128x2_S65536x2x128_0_2_1) shapeCasts_S65536x2x128_S16777216

/-- The result, from the flat array the tiles fill. -/
def flatOut (b : S16777216.Idx → F .f32) : S8388608x2.Idx → F .f32 :=
  shapeCast S8388608x2 (transpose S65536x128x2 [0, 2, 1] (shapeCast S65536x2x128 b shapeCasts_S16777216_S65536x2x128)
    transposes_S65536x2x128_S65536x128x2_0_2_1) shapeCasts_S65536x128x2_S8388608x2

variable (m : (ℓ : Loc nD τ sig) → Buf (Elt F) ℓ) (ρ : Dev nD → PrngReg)

/-- The argument on device `d`. -/
abbrev argLoc (d : Dev nD) : Loc nD τ sig := (SparseCore.T d).loc main_arg0
/-- What the tiles of device `d` read. -/
def inOf (d : Dev nD) : S16777216.Idx → F .f32 := flatIn (m (argLoc d))
/-- What lies in the array the tiles of device `d` fill, before they do. -/
def oldOf (d : Dev nD) : S16777216.Idx → F .f32 := m (yLoc d)

/-! ## What the handshakes carry -/

/-- The coordinates of tile `s` of SparseCore `c`. -/
def coords (c : Fin (grid0.bound 0)) (s : Fin (grid0.bound 1)) : grid0.Coords
  | 0 => c
  | 1 => s
  | ⟨_ + 2, h⟩ => absurd h (Nat.not_lt.2 (Nat.le_add_left 2 _))

/-- The sixteen tiles' shares of one SparseCore. -/
def coreHas (d : Dev nD) (c : Fin (grid0.bound 0)) (x y : S16777216.Idx → F .f32) : sProp 𝕄 :=
  bigSep Finset.univ fun s : Fin (grid0.bound 1) => tileHas d (coords c s) x y

/-- The one call: every tile gets its chunks of both arrays and gives them back, the second filled with the answer. -/
def P : (K (F := F)).Pay (nD := nD) (Val := Elt F) (Name := ℕ) (U := UU) where
  st := fun q d c => match q with | 0 => coreHas d c (inOf m d) (oldOf m d)
  dn := fun q d c => match q with | 0 => coreHas d c (inOf m d) (wholeOut (inOf m d))
  go := fun q d c s => match q with | 0 => tileHas d (coords c s) (inOf m d) (oldOf m d)
  td := fun q d c s => match q with | 0 => tileHas d (coords c s) (inOf m d) (wholeOut (inOf m d))
  x := fun _ _ => iprop(emp)

/-- A tile's share can be handed over. -/
instance tileHas_storable (d : Dev nD) (L : grid0.Coords) (x y : S16777216.Idx → F .f32) :
    BI.Storable (upEmb : UEmb _ 𝕄) (tileHas d L x y) := by
  unfold tileHas; infer_instance

/-- A SparseCore's share can be handed over. -/
instance coreHas_storable (d : Dev nD) (c : Fin (grid0.bound 0)) (x y : S16777216.Idx → F .f32) :
    BI.Storable (upEmb : UEmb _ 𝕄) (coreHas d c x y) := by
  unfold coreHas; infer_instance

/-- Everything the call carries can be handed over. -/
instance P_storable : (P (F := F) m).IsStorable where
  st q d c := match q with | 0 => coreHas_storable d c _ _
  dn q d c := match q with | 0 => coreHas_storable d c _ _
  go q d c s := match q with | 0 => tileHas_storable d (coords c s) _ _
  td q d c s := match q with | 0 => tileHas_storable d (coords c s) _ _

/-! ## The call's obligations -/

/-- The handshakes' semaphores are where the launch wants them. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-- The body a tile runs. -/
theorem defs₀_vector (c : Fin τ.nSC) (s : Fin τ.nSub) :
    defs₀ (F := F) (.scVector c s) 0 ()
      = SparseCore.onTile hcore0 hsub0 (fun c s => cc0__k (coords c s) xV (Memref.isWhole_whole _) yV (Memref.isWhole_whole _)
          inA (Memref.isWhole_whole _) inB (Memref.isWhole_whole _) outA (Memref.isWhole_whole _) outB (Memref.isWhole_whole _)
          cc0_scratch4 cc0_scratch5 cc0_scratch6 cc0_scratch7) ⟨⟩ c s := rfl

/-- Every tile keeps its promise. -/
theorem tileObl : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]
  simp only [SparseCore.onTile, hci, and_self, ↓reduceDIte]
  exact tile_body d (coords ⟨_, hci.1⟩ ⟨_, hci.2⟩) (inOf m d) (oldOf m d) O W facts hO

/-- A SparseCore's share is its tiles' shares. -/
theorem vecSplit : (K (F := F)).VecSplit' (P m) 0 := by
  intro d c
  show coreHas d c (inOf m d) (oldOf m d) ⊢ |={Set.univ}=> iprop(coreHas d c (inOf m d) (oldOf m d)
    ∗ (coreHas d c (inOf m d) (wholeOut (inOf m d)) -∗ coreHas d c (inOf m d) (wholeOut (inOf m d))))
  iintro H
  imodintro
  isplitl [H]; · iexact H
  iintro H
  iexact H

/-! ## The arrays as shares -/

/-- The first array whole is its 1024 chunks. -/
theorem x_chunks (d : Dev nD) (x : S16777216.Idx → F .f32) :
    (xLoc d ↦{fullShare} x : sProp 𝕄) = bigSep (Finset.range 1024) (xSeg d x) := by
  rw [← pointsTo_biUnion (Finset.range 1024) (ℓ := xLoc d) seg fun _ _ _ _ h => seg_disjoint h, seg_cover]

/-- The second array whole is its 1024 chunks. -/
theorem y_chunks (d : Dev nD) (y : S16777216.Idx → F .f32) :
    (yLoc d ↦{fullShare} y : sProp 𝕄) = bigSep (Finset.range 1024) (ySeg d y) := by
  rw [← pointsTo_biUnion (Finset.range 1024) (ℓ := yLoc d) seg fun _ _ _ _ h => seg_disjoint h, seg_cover]

/-- Numbers below 1024 are SparseCore, tile, turn: `32 (2 s + c) + j`. -/
theorem bigSep_chunks (Φ : ℕ → sProp 𝕄) :
    (bigSep (Finset.univ : Finset (Fin 2)) fun c => bigSep (Finset.univ : Finset (Fin 16)) fun s =>
        bigSep (Finset.range 32) fun j => Φ (32 * (2 * s.val + c.val) + j)) = bigSep (Finset.range 1024) Φ := by
  have hcov : ((Finset.univ : Finset (Fin 2)) ×ˢ (Finset.univ : Finset (Fin 16)) ×ˢ Finset.range 32).image
      (fun t => 32 * (2 * t.2.1.val + t.1.val) + t.2.2) = Finset.range 1024 := by
    ext n
    simp only [Finset.mem_image, Finset.mem_product, Finset.mem_univ, Finset.mem_range, true_and, Prod.exists]
    constructor
    · rintro ⟨c, s, j, hj, rfl⟩
      have := c.isLt
      have := s.isLt
      omega
    · intro hn
      refine ⟨⟨n / 32 % 2, by omega⟩, ⟨n / 64, by omega⟩, n % 32, by omega, ?_⟩
      show 32 * (2 * (n / 64) + n / 32 % 2) + n % 32 = n
      omega
  rw [← hcov, SparseCore.bigSep_image_of_injOn, SparseCore.bigSep_product]
  · exact bigSep_congr fun c _ =>
      (SparseCore.bigSep_product _ _ fun b : Fin 16 × ℕ => Φ (32 * (2 * b.1.val + c.val) + b.2)).symm
  · rintro ⟨c, s, j⟩ h ⟨c', s', j'⟩ h' e
    simp only [Finset.coe_product, Set.mem_prod, Finset.mem_coe, Finset.mem_range] at h h'
    have h1 := h.2.2
    have h2 := h'.2.2
    have := c.isLt
    have := c'.isLt
    have e : 32 * (2 * s.val + c.val) + j = 32 * (2 * s'.val + c'.val) + j' := e
    have hs : s = s' := Fin.ext (by omega)
    have hc : c = c' := Fin.ext (by omega)
    have hj : j = j' := by omega
    rw [hs, hc, hj]

/-- The two arrays whole are the two SparseCores' shares. -/
theorem cores_have (d : Dev nD) (x y : S16777216.Idx → F .f32) :
    (bigSep Finset.univ fun c : Fin (grid0.bound 0) => coreHas d c x y : sProp 𝕄)
      = iprop((xLoc d ↦{fullShare} x) ∗ (yLoc d ↦{fullShare} y)) := by
  rw [x_chunks, y_chunks, ← bigSep_sep']
  exact bigSep_chunks fun n => iprop(xSeg d x n ∗ ySeg d y n)

/-- What the call takes for the two SparseCores is the two arrays. -/
theorem st_eq (d : Dev nD) :
    (bigSep Finset.univ fun c : Fin ((K (F := F)).nCore 0) => (P m).st 0 d c)
      = iprop((xLoc d ↦{fullShare} inOf m d) ∗ (yLoc d ↦{fullShare} oldOf m d)) := cores_have d _ _

/-- What the call hands back is the two arrays, the second filled with the answer. -/
theorem dn_eq (d : Dev nD) :
    (bigSep Finset.univ fun c : Fin ((K (F := F)).nCore 0) => (P m).dn 0 d c)
      = iprop((xLoc d ↦{fullShare} inOf m d) ∗ (yLoc d ↦{fullShare} wholeOut (inOf m d))) := cores_have d _ _

/-! ## The launch element -/

/-- The handshakes' rounds, and no counter yet. -/
def u₀ : UU := (initOf (K (F := F)).hsCells (K (F := F)).hsToks, 1)

/-- The launch element gives the handshakes their rounds; the kernel asks nothing of its own. -/
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have none : (bigSep Finset.univ fun thr : Thread nD τ => bigSep Finset.univ fun q : Fin 1 => (P (F := F) m).x q thr)
      = (iprop(emp) : sProp 𝕄) :=
    (bigSep_congr fun _ _ => bigSep_emp_const _).trans (bigSep_emp_const _)
  rw [none, show (bigSep Finset.univ fun _ : Dev nD => iprop(emp)) = (iprop(emp) : sProp 𝕄) from bigSep_emp_const _]
  unfold u₀
  iintro Hu
  ihave H := (ownU_pair (initOf (K (F := F)).hsCells (K (F := F)).hsToks) (1 : Counters)) $$ Hu
  icases H with ⟨HH, -⟩
  imodintro
  isplitl [HH]; · iexact HH
  isplitr <;> iempintro

end Cert.Proof
-- ==== Proof.Main.lean ====
/-
  The whole program on the TensorCore: three layout steps, the call, three layout steps back; and the run of the
  program, which leaves the argument as it was, the result at the stated value, and every semaphore at zero.
-/
module

public import proofs.«01_k».proof.Proof.Launch

@[expose] public section

noncomputable section

namespace Cert.Proof

open Cert.KernelIdeal Cert.KernelIdeal.Gen
open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.StableHlo
open Idealize.ShloMosaic.Tactic

variable {F : FTy → Type} [FloatOps F]
local notation "𝕄" => MT nD τ sig (HIx 1) (Elt F) ℕ UU ℕ

variable (m : (ℓ : Loc nD τ sig) → Buf (Elt F) ℓ) (ρ : Dev nD → PrngReg)

/-! ## The arrays of the TensorCore -/

/-- An array of the TensorCore, as the machine names it. -/
abbrev at' (b : Ref sig .tc) : DevRef τ sig := Proc.devRef .tc b

/-- The eight arrays of the program. -/
abbrev arrays : Finset (DevRef τ sig) :=
  {at' main_v2, at' main_v3, at' main_arg0, at' main_v0, at' main_v1, at' main_v4, at' main_v5, at' main_v6}

/-- The eight arrays held, the tiles' two in front. -/
theorem held_arrays (d : Dev nD) (W : Valuation τ sig (Elt F)) :
    (held (T d) arrays W : sProp 𝕄)
      = iprop((xLoc d ↦{fullShare} W (at' main_v2)) ∗ (yLoc d ↦{fullShare} W (at' main_v3))
          ∗ held (T d) (arrays \ {at' main_v2, at' main_v3}) W) := by
  unfold held
  rw [show arrays \ {at' main_v2, at' main_v3}
      = {at' main_arg0, at' main_v0, at' main_v1, at' main_v4, at' main_v5, at' main_v6} by decide,
    SparseCore.bigSep_insert' (by decide), SparseCore.bigSep_insert' (by decide)]

/-- The eight arrays held, the argument and the result in front. -/
theorem held_ends (d : Dev nD) (W : Valuation τ sig (Elt F)) :
    (held (T d) arrays W : sProp 𝕄)
      = iprop((argLoc d ↦{fullShare} W (at' main_arg0)) ∗ ((SparseCore.T d).loc main_v6 ↦{fullShare} W (at' main_v6))
          ∗ held (T d) (arrays \ {at' main_arg0, at' main_v6}) W) := by
  unfold held
  rw [show arrays \ {at' main_arg0, at' main_v6}
      = {at' main_v2, at' main_v3, at' main_v0, at' main_v1, at' main_v4, at' main_v5} by decide,
    show arrays = {at' main_arg0, at' main_v6, at' main_v2, at' main_v3, at' main_v0, at' main_v1, at' main_v4, at' main_v5} by
      decide,
    SparseCore.bigSep_insert' (by decide), SparseCore.bigSep_insert' (by decide)]

/-- The contents at the start. -/
def V0 (d : Dev nD) : Valuation τ sig (Elt F) := fun b => m (d, b)

/-- What the launch gives the TensorCore is the eight arrays at their first contents. -/
theorem unscoped_held (d : Dev nD) :
    (unscopedBufs d (fun b => m ((SparseCore.T d).loc b)) : sProp 𝕄) = held (T d) arrays (V0 m d) := by
  unfold unscopedBufs held
  rw [show (Finset.univ.filter fun b : Ref sig .tc => ¬ b.isScoped)
      = {main_v2, main_v3, main_arg0, main_v0, main_v1, main_v4, main_v5, main_v6} by decide]
  iterate 7 rw [SparseCore.bigSep_insert' (by decide), SparseCore.bigSep_insert' (by decide)]
  rw [bigSep_singleton, bigSep_singleton]
  rfl

/-! ## The layout steps -/

/-- The argument in blocks of 128 pairs. -/
abbrev op0 : HloOp τ sig (Elt F) := StableHlo.reshape main_arg0 main_v0 (rfl : (.f32 : EltTy) = .f32) shapeCasts_S8388608x2_S65536x128x2
/-- Each block with its lower numbers first. -/
abbrev op1 : HloOp τ sig (Elt F) := StableHlo.unary main_v0 main_v1 ((transpose S65536x2x128 [0, 2, 1] · transposes_S65536x128x2_S65536x2x128_0_2_1) : (⟨S65536x128x2, .f32⟩ : BufTy).Contents (Elt F) → (⟨S65536x2x128, .f32⟩ : BufTy).Contents (Elt F))
/-- The blocks laid out flat. -/
abbrev op2 : HloOp τ sig (Elt F) := StableHlo.reshape main_v1 main_v2 (rfl : (.f32 : EltTy) = .f32) shapeCasts_S65536x2x128_S16777216
/-- The flat answer in blocks. -/
abbrev op4 : HloOp τ sig (Elt F) := StableHlo.reshape main_v3 main_v4 (rfl : (.f32 : EltTy) = .f32) shapeCasts_S16777216_S65536x2x128
/-- Each block with its pairs side by side. -/
abbrev op5 : HloOp τ sig (Elt F) := StableHlo.unary main_v4 main_v5 ((transpose S65536x128x2 [0, 2, 1] · transposes_S65536x2x128_S65536x128x2_0_2_1) : (⟨S65536x2x128, .f32⟩ : BufTy).Contents (Elt F) → (⟨S65536x128x2, .f32⟩ : BufTy).Contents (Elt F))
/-- The blocks as one list of pairs. -/
abbrev op6 : HloOp τ sig (Elt F) := StableHlo.reshape main_v5 main_v6 (rfl : (.f32 : EltTy) = .f32) shapeCasts_S65536x128x2_S8388608x2

/-- The contents as the call begins. -/
def V3 (d : Dev nD) : Valuation τ sig (Elt F) := op2.result (op1.result (op0.result (V0 m d)))
/-- The contents as the call ends. -/
def V4 (d : Dev nD) : Valuation τ sig (Elt F) :=
  Function.update (V3 m d) (at' main_v3) (wholeOut (inOf m d) : S16777216.Idx → F .f32)
/-- The contents at the end. -/
def V7 (d : Dev nD) : Valuation τ sig (Elt F) := op6.result (op5.result (op4.result (V4 m d)))

/-- As the call begins, the array read holds the flat argument. -/
theorem V3_in (d : Dev nD) : V3 m d (at' main_v2) = inOf m d := by
  unfold V3
  rw [reshape_result', unary_result', reshape_result']
  rfl

/-- As the call begins, the array to fill holds what it did at the start. -/
theorem V3_old (d : Dev nD) : V3 m d (at' main_v3) = oldOf m d := by
  unfold V3
  rw [reshape_result_ne' _ _ _ _ _ (by decide), unary_result_ne' _ _ _ _ (by decide),
    reshape_result_ne' _ _ _ _ _ (by decide)]
  rfl

/-- As the call ends, the array read is as it was. -/
theorem V4_in (d : Dev nD) : V4 m d (at' main_v2) = inOf m d :=
  (Function.update_of_ne (show at' main_v2 ≠ at' main_v3 by decide) _ _).trans (V3_in m d)

/-- As the call ends, the array filled holds the answer. -/
theorem V4_new (d : Dev nD) : V4 m d (at' main_v3) = (wholeOut (inOf m d) : S16777216.Idx → F .f32) :=
  Function.update_self _ _ _

/-- The call changes no other array. -/
theorem held_V4 (d : Dev nD) :
    (held (T d) (arrays \ {at' main_v2, at' main_v3}) (V4 m d) : sProp 𝕄)
      = held (T d) (arrays \ {at' main_v2, at' main_v3}) (V3 m d) :=
  bigSep_congr fun b hb => by
    unfold V4
    rw [Function.update_of_ne]
    rintro rfl
    exact absurd hb (by decide)

/-- At the end the argument is as it was. -/
theorem V7_arg (d : Dev nD) : V7 m d (at' main_arg0) = m (argLoc d) := by
  unfold V7
  rw [reshape_result_ne' _ _ _ _ _ (by decide), unary_result_ne' _ _ _ _ (by decide),
    reshape_result_ne' _ _ _ _ _ (by decide)]
  refine (Function.update_of_ne (show at' main_arg0 ≠ at' main_v3 by decide) _ _).trans ?_
  unfold V3
  rw [reshape_result_ne' _ _ _ _ _ (by decide), unary_result_ne' _ _ _ _ (by decide),
    reshape_result_ne' _ _ _ _ _ (by decide)]
  rfl

/-- The result on device `d`. -/
def resultOf (d : Dev nD) : S8388608x2.Idx → F .f32 := flatOut (wholeOut (inOf m d))

/-- At the end the result is the stated value. -/
theorem V7_result (d : Dev nD) : V7 m d (at' main_v6) = resultOf m d := by
  unfold V7
  rw [reshape_result', unary_result', reshape_result', V4_new]
  rfl

/-! ## The TensorCore's program -/

/-- What the program leaves: the argument as it was, and the result. -/
abbrev FIN (d : Dev nD) : sProp 𝕄 :=
  iprop((argLoc d ↦{fullShare} m (argLoc d)) ∗ ((SparseCore.T d).loc main_v6 ↦{fullShare} resultOf m d))

/-- The program on device `d`'s TensorCore. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_held]
  simp only [main, wp_bind, wp_pure]
  iintro ⟨#Hctx, Hst, ⟨Hb, Hheld, Hts, -⟩, -⟩
  iapply (wp_hlo_within 𝒱 (SparseCore.T d) none Set.univ (op := op0) (S := arrays)
    (show ({at' main_arg0, at' main_v0} : Finset (DevRef τ sig)) ⊆ arrays by decide) (V := V0 m d)) $$ [Hb Hheld]
  · isplitl [Hb] <;> iassumption
  iintro ⟨Hb, Hheld⟩
  rw [wp_ret]; imodintro
  iapply (wp_hlo_within 𝒱 (SparseCore.T d) none Set.univ (op := op1) (S := arrays)
    (show ({at' main_v0, at' main_v1} : Finset (DevRef τ sig)) ⊆ arrays by decide) (V := op0.result (V0 m d))) $$ [Hb Hheld]
  · isplitl [Hb] <;> iassumption
  iintro ⟨Hb, Hheld⟩
  rw [wp_ret]; imodintro
  iapply (wp_hlo_within 𝒱 (SparseCore.T d) none Set.univ (op := op2) (S := arrays)
    (show ({at' main_v1, at' main_v2} : Finset (DevRef τ sig)) ⊆ arrays by decide) (V := op1.result (op0.result (V0 m d)))) $$ [Hb Hheld]
  · isplitl [Hb] <;> iassumption
  iintro ⟨Hb, Hheld⟩
  rw [wp_ret]; imodintro
  ihave Hh := (Entails.of_eq ((show held (T d) arrays (op2.result (op1.result (op0.result (V0 m d)))) = held (T d) arrays (V3 m d) from rfl).trans
    (held_arrays d (V3 m d)))) $$ Hheld
  icases Hh with ⟨Hx, Hy, Hrest⟩
  iapply ((K (F := F)).wp_run (D (F := F)) 𝒱 (EH := EH) (P := P m) κ d 0) $$ [Hst Hx Hy Hb Hrest Hts]
  isplitr; · iexact Hctx
  isplitl [Hst]; · iexact Hst
  isplitl [Hx Hy]
  · rw [st_eq, V3_in, V3_old]
    isplitl [Hx] <;> iassumption
  iintro ⟨Hst, Hdn⟩
  ihave Hdn' := (Entails.of_eq (dn_eq m d)) $$ Hdn
  icases Hdn' with ⟨Hx, Hy⟩
  ihave Hheld := (BIBase.Entails.rfl (P := (held (T d) arrays (V4 m d) : sProp 𝕄))) $$ [Hx Hy Hrest]
  · rw [held_arrays, V4_in, V4_new, held_V4]
    isplitl [Hx]; · iexact Hx
    isplitl [Hy] <;> iassumption
  iapply (wp_hlo_within 𝒱 (SparseCore.T d) none Set.univ (op := op4) (S := arrays)
    (show ({at' main_v3, at' main_v4} : Finset (DevRef τ sig)) ⊆ arrays by decide) (V := V4 m d)) $$ [Hb Hheld]
  · isplitl [Hb] <;> iassumption
  iintro ⟨Hb, Hheld⟩
  rw [wp_ret]; imodintro
  iapply (wp_hlo_within 𝒱 (SparseCore.T d) none Set.univ (op := op5) (S := arrays)
    (show ({at' main_v4, at' main_v5} : Finset (DevRef τ sig)) ⊆ arrays by decide) (V := op4.result (V4 m d))) $$ [Hb Hheld]
  · isplitl [Hb] <;> iassumption
  iintro ⟨Hb, Hheld⟩
  rw [wp_ret]; imodintro
  iapply (wp_hlo_within 𝒱 (SparseCore.T d) none Set.univ (op := op6) (S := arrays)
    (show ({at' main_v5, at' main_v6} : Finset (DevRef τ sig)) ⊆ arrays by decide) (V := op5.result (op4.result (V4 m d)))) $$ [Hb Hheld]
  · isplitl [Hb] <;> iassumption
  iintro ⟨Hb, Hheld⟩
  rw [wp_ret]; imodintro; imodintro
  ihave Hh := (Entails.of_eq ((show held (T d) arrays (op6.result (op5.result (op4.result (V4 m d)))) = held (T d) arrays (V7 m d) from rfl).trans
    (held_ends d (V7 m d)))) $$ Hheld
  rw [V7_arg, V7_result]
  icases Hh with ⟨Ha, Hr, -⟩
  isplitl [Hst]; · iexact Hst
  isplitl [Ha Hr]
  · isplitl [Ha] <;> iassumption
  isplitl [Hb] <;> iassumption

/-! ## The program's run -/

/-- What a final state shows on device `d`. -/
def fq (d : Dev nD) (s' : Phys nD τ sig (Elt F)) : Prop :=
  s'.mem.mem (argLoc d) = m (argLoc d) ∧ s'.mem.mem ((SparseCore.T d).loc main_v6) = resultOf m d

/-- What the program leaves is what a final state shows. -/
theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := argLoc d) (I := Finset.univ) (q := fullShare)
    (f := m (argLoc d)))) $$ [HSI Ha]
  · isplitl [HSI] <;> iassumption
  icases H with ⟨%ha, HSI, -⟩
  ihave H := (SI_pointsTo_agree (st := s') (ℓ := (SparseCore.T d).loc main_v6) (I := Finset.univ) (q := fullShare)
    (f := resultOf m d)) $$ [HSI Hr]
  · isplitl [HSI] <;> iassumption
  icases H with %hr
  ipureintro
  exact ⟨funext fun i => ha i (Finset.mem_univ i), funext fun i => hr i (Finset.mem_univ i)⟩

/-- The program runs; at the end the argument is as it was, the result is the stated value, every semaphore is zero. -/
theorem run_main [∀ e, Nonempty (Elt F e)] :
    θ_run (Cert.KernelIdeal.defs (F := F)) (Cert.KernelIdeal.threads (F := F)) ⟨m, fun _ => 0, ρ⟩
      (fun r => (∀ c : Dev nD, r.2.mem (argLoc c) = m (argLoc c) ∧ r.2.mem ((SparseCore.T c).loc main_v6) = resultOf m c)
        ∧ r.2.sem = fun _ => 0) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) _
    (fun _ h hz => ⟨h, hz⟩)

end Cert.Proof
-- ==== Proof.Layout.lean ====
/-
  Where the layout steps put each number: the pair `n` has its lower number at place `128 (2 (n / 128)) + n % 128` of the
  flat array and its upper number 128 places on. From that, the program's result, one element at a time.
-/
module

public import proofs.«01_k».proof.Proof.Main
public import Idealize.ShloMosaic.Lib.Pipeline.Value

@[expose] public section

noncomputable section

namespace Cert.Proof

open Idealize.ShloMosaic

open Cert.KernelIdeal Cert.KernelIdeal.Gen

variable {F : FTy → Type} [FloatOps F]

/-- The place in the flat array of the argument's element at `k`. -/
def placeOf (k : S8388608x2.Idx) : ℕ := (k 0).val / 128 * 256 + 128 * (k 1).val + (k 0).val % 128

/-- The place lies in the flat array. -/
theorem placeOf_lt (k : S8388608x2.Idx) : placeOf k < 16777216 := by
  have h0 : (k 0).val < 8388608 := (k 0).isLt
  have h1 : (k 1).val < 2 := (k 1).isLt
  unfold placeOf
  omega

/-- That place as an index of the flat array. -/
def flatIdx (k : S8388608x2.Idx) : S16777216.Idx := fun
  | ⟨0, _⟩ => ⟨placeOf k, placeOf_lt k⟩

/-- The element's index once the pairs are in blocks of 128. -/
def blockIdx (k : S8388608x2.Idx) : S65536x128x2.Idx := fun
  | ⟨0, _⟩ => ⟨(k 0).val / 128, by have h : (k 0).val < 8388608 := (k 0).isLt; show (k 0).val / 128 < 65536; omega⟩
  | ⟨1, _⟩ => ⟨(k 0).val % 128, Nat.mod_lt _ (by decide)⟩
  | ⟨2, _⟩ => ⟨(k 1).val, (k 1).isLt⟩

/-- The element's index once each block has its lower numbers first. -/
def halfIdx (k : S8388608x2.Idx) : S65536x2x128.Idx := fun
  | ⟨0, _⟩ => ⟨(k 0).val / 128, by have h : (k 0).val < 8388608 := (k 0).isLt; show (k 0).val / 128 < 65536; omega⟩
  | ⟨1, _⟩ => ⟨(k 1).val, (k 1).isLt⟩
  | ⟨2, _⟩ => ⟨(k 0).val % 128, Nat.mod_lt _ (by decide)⟩

/-- Cutting the pairs into blocks keeps the order of the elements. -/
theorem rowMajor_block (k : S8388608x2.Idx) :
    (S8388608x2.rowMajor k).val = (S65536x128x2.rowMajor (blockIdx k)).val := by
  rw [Shape.rowMajor_val_two, Shape.rowMajor_val_three]
  show (k 0).val * 2 + (k 1).val = ((k 0).val / 128 * 128 + (k 0).val % 128) * 2 + (k 1).val
  omega

/-- Laying the blocks out flat keeps the order of the elements. -/
theorem rowMajor_half (k : S8388608x2.Idx) :
    (S65536x2x128.rowMajor (halfIdx k)).val = (S16777216.rowMajor (flatIdx k)).val := by
  rw [Shape.rowMajor_val_three, Shape.rowMajor_val_one]
  show ((k 0).val / 128 * 2 + (k 1).val) * 128 + (k 0).val % 128 = placeOf k
  unfold placeOf
  omega

/-- The flat array holds the argument's element at its place. -/
theorem flatIn_apply (a : S8388608x2.Idx → F .f32) (k : S8388608x2.Idx) : flatIn a (flatIdx k) = a k := by
  unfold flatIn
  rw [shapeCast_apply _ _ (flatIdx k) (halfIdx k) (rowMajor_half k),
    transpose_apply _ _ _ (halfIdx k) (blockIdx k) (by intro b; fin_cases b <;> rfl)]
  exact shapeCast_apply a _ (blockIdx k) k (rowMajor_block k)

/-- The result's element is the one at its place in the flat array. -/
theorem flatOut_apply (b : S16777216.Idx → F .f32) (k : S8388608x2.Idx) : flatOut b k = b (flatIdx k) := by
  unfold flatOut
  rw [shapeCast_apply _ _ k (blockIdx k) (rowMajor_block k).symm,
    transpose_apply _ _ _ (blockIdx k) (halfIdx k) (by intro b; fin_cases b <;> rfl)]
  exact shapeCast_apply b _ (halfIdx k) (flatIdx k) (rowMajor_half k).symm

/-- The flat array as a sequence, at an element's place. -/
theorem seqOf_flatIn (a : S8388608x2.Idx → F .f32) (k : S8388608x2.Idx) (p : ℕ) (hp : p = placeOf k) :
    seqOf (n := 16777216) (by decide) (flatIn a) p = a k :=
  (seqOf_eq _ _ (flatIdx k) p hp).trans (flatIn_apply a k)

/-- The index of number `c` of pair `n`. -/
def pairIdx (n : Fin 8388608) (c : Fin 2) : S8388608x2.Idx := fun
  | ⟨0, _⟩ => n
  | ⟨1, _⟩ => c

/-- Every index is a pair's. -/
theorem eq_pairIdx (k : S8388608x2.Idx) : k = pairIdx (k 0) (k 1) := by
  funext a
  fin_cases a <;> rfl

/-- The lower number of pair `n` of the program's result. -/
theorem result_lower (a : S8388608x2.Idx → F .f32) (n : Fin 8388608) :
    flatOut (wholeOut (flatIn a)) (pairIdx n 0) = lower (a (pairIdx n 0)) (a (pairIdx n 1)) := by
  have hp : placeOf (pairIdx n 0) = n.val / 128 * 256 + 128 * 0 + n.val % 128 := rfl
  have hq : placeOf (pairIdx n 1) = n.val / 128 * 256 + 128 * 1 + n.val % 128 := rfl
  rw [flatOut_apply]
  show pairAt _ (placeOf (pairIdx n 0)) = _
  unfold pairAt
  rw [if_pos (by omega), seqOf_flatIn a (pairIdx n 0) _ rfl, seqOf_flatIn a (pairIdx n 1) _ (by omega)]

/-- The upper number of pair `n` of the program's result. -/
theorem result_upper (a : S8388608x2.Idx → F .f32) (n : Fin 8388608) :
    flatOut (wholeOut (flatIn a)) (pairIdx n 1) = upper (a (pairIdx n 0)) (a (pairIdx n 1)) := by
  have hp : placeOf (pairIdx n 0) = n.val / 128 * 256 + 128 * 0 + n.val % 128 := rfl
  have hq : placeOf (pairIdx n 1) = n.val / 128 * 256 + 128 * 1 + n.val % 128 := rfl
  rw [flatOut_apply]
  show pairAt _ (placeOf (pairIdx n 1)) = _
  unfold pairAt
  rw [if_neg (by omega), seqOf_flatIn a (pairIdx n 0) _ (by omega), seqOf_flatIn a (pairIdx n 1) _ rfl]

end Cert.Proof
-- ==== Proof.Reference.lean ====
/-
  The reference, one element at a time, over any float values; and why the kernel's two formulas give the reference's
  numbers when floats are extended reals.
-/
module

public import proofs.«01_k».proof.Proof.Layout
public import proofs.«01_k».proof.Proof.Gen.ReferenceIdeal.Read
public import Idealize.ShloMosaic.Lib.Pointwise.Select

@[expose] public section

noncomputable section

namespace Cert.Proof

open Idealize.ShloMosaic

open Cert.ReferenceIdeal Cert.ReferenceIdeal.Read

variable {F : FTy → Type} [FloatOps F]

/-- The reference's mask of pairs that straddle zero: `u > 0` and `l < 0`. -/
def straddles (l u : F .f32) : BitVec 1 :=
  IntOp.andi (FloatOps.cmpf .ogt u zeroF) (FloatOps.cmpf .olt l zeroF)

/-- The reference's lower number: `l` when `l ≥ 0`; else `l` when the pair straddles zero with `u > -l`; else zero. -/
def refLower (l u : F .f32) : F .f32 :=
  Scalar.select (FloatOps.cmpf .oge l zeroF) l
    (Scalar.select (IntOp.andi (FloatOps.cmpf .ogt u (FloatOps.hostNegf l)) (straddles l u)) l zeroF)

/-- The reference's upper number: `u` when `l ≥ 0` or the pair straddles zero, else zero. -/
def refUpper (l u : F .f32) : F .f32 :=
  Scalar.select (FloatOps.cmpf .oge l zeroF) u (Scalar.select (straddles l u) u zeroF)

/-- The index of pair `n` in a column. -/
def columnIdx (n : Fin 8388608) : S8388608x1.Idx := fun
  | ⟨0, _⟩ => n
  | ⟨1, _⟩ => ⟨0, Nat.one_pos⟩

/-- The reference's lower column holds the lower numbers. -/
theorem lower_column (a : S8388608x2.Idx → F .f32) (n : Fin 8388608) :
    val_main_v1 (F := F) a (idx_main_v20 (columnIdx n)) = a (pairIdx n 0) := by
  rw [val_main_v1_apply, val_main_v0_apply]
  refine congrArg a (funext fun b => Fin.ext ?_)
  fin_cases b
  · show n.val / 1 = n.val
    omega
  · rfl

/-- The reference's upper column holds the upper numbers. -/
theorem upper_column (a : S8388608x2.Idx → F .f32) (n : Fin 8388608) :
    val_main_v3 (F := F) a (idx_main_v20 (columnIdx n)) = a (pairIdx n 1) := by
  rw [val_main_v3_apply, val_main_v2_apply]
  refine congrArg a (funext fun b => Fin.ext ?_)
  fin_cases b
  · show n.val / 1 = n.val
    omega
  · rfl

/-- The lower number of pair `n` of the reference's result. -/
theorem reference_lower (a : S8388608x2.Idx → F .f32) (n : Fin 8388608) :
    val_main_v22 (F := F) a (pairIdx n 0) = refLower (a (pairIdx n 0)) (a (pairIdx n 1)) := by
  unfold val_main_v22
  rw [concatenate_pair_apply_left (t := S8388608x2) (s₁ := S8388608x1) (s₂ := S8388608x1) 1 _ _ _ (pairIdx n 0) rfl (columnIdx n)
    (by intro b; fin_cases b <;> rfl), val_main_v20_apply, val_main_v19_apply, val_main_v17_apply, val_main_v13_apply,
    val_main_v12_apply, val_main_v11_apply, val_main_v10_apply, val_main_v9_apply, val_main_v7_apply, val_main_v5_apply,
    lower_column, upper_column, val_main_v4_apply, val_main_v6_apply, val_main_v8_apply, val_main_v16_apply]
  rfl

/-- The upper number of pair `n` of the reference's result. -/
theorem reference_upper (a : S8388608x2.Idx → F .f32) (n : Fin 8388608) :
    val_main_v22 (F := F) a (pairIdx n 1) = refUpper (a (pairIdx n 0)) (a (pairIdx n 1)) := by
  unfold val_main_v22
  rw [concatenate_pair_apply_right (t := S8388608x2) (s₁ := S8388608x1) (s₂ := S8388608x1) 1 _ _ _ (pairIdx n 1) rfl rfl (columnIdx n)
    (by intro b hb; fin_cases b; · rfl
        · exact absurd rfl hb) rfl, val_main_v21_apply,
    show idx_main_v21 (columnIdx n) = idx_main_v20 (columnIdx n) from rfl, val_main_v18_apply, val_main_v15_apply,
    val_main_v10_apply, val_main_v9_apply, val_main_v7_apply, val_main_v5_apply,
    lower_column, upper_column, val_main_v4_apply, val_main_v6_apply, val_main_v8_apply, val_main_v14_apply]
  rfl

/-! ## The two formulas agree over extended reals -/

/-- The number zero, as the kernel writes it, is the real zero. -/
theorem zeroF_ideal : (zeroF : Ideal .f32) = (0 : EReal) := Ideal.ofBits_zero_f32

/-- The lower numbers agree: when `l < 0`, `u > 0 - l` already says `u > 0`. -/
theorem lower_eq (l u : Ideal .f32) : lower l u = refLower l u := by
  unfold lower refLower straddles
  rw [zeroF_ideal]
  show Scalar.select (IntOp.ori (Ideal.cmp .oge l 0) (Ideal.cmp .ogt u (0 - l))) l 0
    = Scalar.select (Ideal.cmp .oge l 0) l (Scalar.select (IntOp.andi (Ideal.cmp .ogt u (-l))
      (IntOp.andi (Ideal.cmp .ogt u 0) (Ideal.cmp .olt l 0))) l 0)
  rw [zero_sub, Ideal.cmp_oge, Ideal.cmp_ogt, Ideal.cmp_ogt, Ideal.cmp_olt]
  by_cases h : (0 : EReal) ≤ l
  · have h' : ¬ l < 0 := not_lt.mpr h
    by_cases k : -l < u <;> by_cases j : (0 : EReal) < u <;> simp [h, h', k, j, Scalar.select, IntOp.ori, IntOp.andi]
  · have h' : l < 0 := not_le.mp h
    by_cases k : -l < u
    · have j : (0 : EReal) < u := lt_trans (by rw [EReal.lt_neg_comm]; simpa using h') k
      simp [h, h', k, j, Scalar.select, IntOp.ori, IntOp.andi]
    · by_cases j : (0 : EReal) < u <;> simp [h, h', k, j, Scalar.select, IntOp.ori, IntOp.andi]

/-- The upper numbers agree: when `l < 0`, the larger of `u` and zero is `u` exactly when `u > 0`. -/
theorem upper_eq (l u : Ideal .f32) : upper l u = refUpper l u := by
  unfold upper refUpper straddles
  rw [zeroF_ideal]
  show Scalar.select (Ideal.cmp .oge l 0) u (max u 0)
    = Scalar.select (Ideal.cmp .oge l 0) u (Scalar.select (IntOp.andi (Ideal.cmp .ogt u 0) (Ideal.cmp .olt l 0)) u 0)
  rw [Ideal.cmp_oge, Ideal.cmp_ogt, Ideal.cmp_olt]
  by_cases h : (0 : EReal) ≤ l
  · simp [h, Scalar.select]
  · have h' : l < 0 := not_le.mp h
    by_cases j : (0 : EReal) < u
    · simp [h, h', j, j.le, Scalar.select, IntOp.andi]
    · simp [h, h', j, not_lt.mp j, Scalar.select, IntOp.andi]

/-- The kernel's result is the reference's. -/
theorem result_eq (a : S8388608x2.Idx → Ideal .f32) : flatOut (wholeOut (flatIn a)) = val_main_v22 (F := Ideal) a := by
  funext k
  rw [eq_pairIdx k]
  generalize k 0 = n
  generalize k 1 = c
  change Fin 8388608 at n
  change Fin 2 at c
  fin_cases c
  · exact (result_lower a n).trans ((lower_eq _ _).trans (reference_lower a n).symm)
  · exact (result_upper a n).trans ((upper_eq _ _).trans (reference_upper a n).symm)

end Cert.Proof
-- ==== Proof.lean ====
/-
  The five claims: the kernel's frame, the frames of its copy and of the reference over extended reals, that the copy is
  the kernel's own text, and that copy and reference end with equal results.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.ReferenceIdeal.Read
public import proofs.«01_k».proof.Proof.Reference
public import Idealize.ShloMosaic.Adequacy
public import Idealize.ShloMosaic.Init
public import Idealize.ShloMosaic.Lib.Quiescent

@[expose] public section

noncomputable section

namespace Cert.Proof

open Idealize.ShloMosaic Idealize.SL.Sem

/-- The kernel's frame: the kernel and its copy have the same text, so this is the copy's run over bit patterns. -/
theorem frame_kernel : Cert.quiescent_Kernel := fun m ρ _ =>
  (θ_run Cert.KernelIdeal.defs _ _).mono (fun _ h => ⟨fun c => (h.1 c).1, h.2⟩) (run_main (F := Bits) m ρ)

/-- The frame of the kernel's copy over extended reals. -/
theorem frame_kernelIdeal : Cert.quiescent_KernelIdeal := fun m ρ _ =>
  (θ_run Cert.KernelIdeal.defs _ _).mono (fun _ h => ⟨fun c => (h.1 c).1, h.2⟩) (run_main (F := Ideal) m ρ)

/-- The reference's frame; it names no semaphore. -/
theorem frame_referenceIdeal : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- Kernel and reference end with the same result. -/
theorem algebraic : Cert.algebraic_KernelIdeal_ReferenceIdeal := fun m ρ m' ρ' _ hagree =>
  ⟨fun c => resultOf m c,
    (θ_run Cert.KernelIdeal.defs _ _).mono (fun _ h c => ⟨(h.1 c).2, (h.1 c).1⟩) (run_main (F := Ideal) m ρ),
    (θ_run Cert.ReferenceIdeal.defs _ _).mono (fun _ h c => ⟨(h c).1.trans (by
      rw [hagree c]
      exact (Cert.ReferenceIdeal.Read.val_main_v22_eq _).trans (result_eq _).symm), (h c).2⟩)
      (Cert.ReferenceIdeal.Value.run (F := Ideal) m' ρ')⟩

/-- All the claims together; no operation was rewritten, so the copy is the kernel with nothing more to show. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
